-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x543x3 : Shape := ⟨3, ![32768, 543, 3]⟩
abbrev S543 : Shape := ⟨1, ![543]⟩
abbrev S32768x543x2 : Shape := ⟨3, ![32768, 543, 2]⟩
abbrev S_ : Shape := ⟨0, ![]⟩
abbrev S1x543x1 : Shape := ⟨3, ![1, 543, 1]⟩

class Facts : Prop where
  slices_S32768x543x3_S32768x543x2_0_0_0 : S32768x543x3.Slices ![0, 0, 0] S32768x543x2
  bcast_S_S32768x543x2 : S_.BroadcastsInDim S32768x543x2 (![] : Fin 0 → Fin S32768x543x2.rank)
  bcast_S543_S1x543x1_1 : S543.BroadcastsInDim S1x543x1 (![1] : Fin 1 → Fin S1x543x1.rank)
  bcast_S1x543x1_S32768x543x2_0_1_2 : S1x543x1.BroadcastsInDim S32768x543x2 (![0, 1, 2] : Fin 3 → Fin S32768x543x2.rank)
  reducesTo_S32768x543x2_S_d0_1_2 : S32768x543x2.ReducesTo [0, 1, 2] S_
  h_S_ : 0 < S_.numel

variable [Facts]

noncomputable abbrev lit0t0_0 (i : Nat) : BitVec 1 := match i % 128 with
  | 0 => 0#1
  | 1 => 1#1
  | 2 => 1#1
  | 3 => 1#1
  | 4 => 1#1
  | 5 => 1#1
  | 6 => 1#1
  | 7 => 1#1
  | 8 => 1#1
  | 9 => 1#1
  | 10 => 1#1
  | 11 => 1#1
  | 12 => 1#1
  | 13 => 0#1
  | 14 => 0#1
  | 15 => 1#1
  | 16 => 1#1
  | 17 => 0#1
  | 18 => 1#1
  | 19 => 1#1
  | 20 => 1#1
  | 21 => 1#1
  | 22 => 1#1
  | 23 => 1#1
  | 24 => 1#1
  | 25 => 1#1
  | 26 => 1#1
  | 27 => 1#1
  | 28 => 1#1
  | 29 => 1#1
  | 30 => 1#1
  | 31 => 1#1
  | 32 => 1#1
  | 33 => 1#1
  | 34 => 1#1
  | 35 => 1#1
  | 36 => 1#1
  | 37 => 0#1
  | 38 => 1#1
  | 39 => 0#1
  | 40 => 0#1
  | 41 => 1#1
  | 42 => 1#1
  | 43 => 1#1
  | 44 => 1#1
  | 45 => 1#1
  | 46 => 1#1
  | 47 => 1#1
  | 48 => 1#1
  | 49 => 1#1
  | 50 => 1#1
  | 51 => 1#1
  | 52 => 1#1
  | 53 => 1#1
  | 54 => 1#1
  | 55 => 1#1
  | 56 => 1#1
  | 57 => 1#1
  | 58 => 1#1
  | 59 => 1#1
  | 60 => 1#1
  | 61 => 0#1
  | 62 => 1#1
  | 63 => 1#1
  | 64 => 1#1
  | 65 => 1#1
  | 66 => 1#1
  | 67 => 1#1
  | 68 => 1#1
  | 69 => 1#1
  | 70 => 1#1
  | 71 => 1#1
  | 72 => 1#1
  | 73 => 1#1
  | 74 => 1#1
  | 75 => 1#1
  | 76 => 1#1
  | 77 => 1#1
  | 78 => 0#1
  | 79 => 1#1
  | 80 => 0#1
  | 81 => 0#1
  | 82 => 0#1
  | 83 => 1#1
  | 84 => 0#1
  | 85 => 1#1
  | 86 => 1#1
  | 87 => 0#1
  | 88 => 0#1
  | 89 => 1#1
  | 90 => 1#1
  | 91 => 0#1
  | 92 => 1#1
  | 93 => 1#1
  | 94 => 1#1
  | 95 => 0#1
  | 96 => 1#1
  | 97 => 1#1
  | 98 => 1#1
  | 99 => 1#1
  | 100 => 1#1
  | 101 => 1#1
  | 102 => 1#1
  | 103 => 1#1
  | 104 => 1#1
  | 105 => 1#1
  | 106 => 1#1
  | 107 => 1#1
  | 108 => 1#1
  | 109 => 1#1
  | 110 => 1#1
  | 111 => 1#1
  | 112 => 1#1
  | 113 => 1#1
  | 114 => 1#1
  | 115 => 1#1
  | 116 => 1#1
  | 117 => 1#1
  | 118 => 1#1
  | 119 => 1#1
  | 120 => 1#1
  | 121 => 1#1
  | 122 => 1#1
  | 123 => 1#1
  | 124 => 1#1
  | 125 => 1#1
  | 126 => 1#1
  | 127 => 1#1
  | _ => 0#1

noncomputable abbrev lit0t0_1 (i : Nat) : BitVec 1 := match i % 128 with
  | 0 => 1#1
  | 1 => 1#1
  | 2 => 1#1
  | 3 => 1#1
  | 4 => 1#1
  | 5 => 1#1
  | 6 => 1#1
  | 7 => 1#1
  | 8 => 1#1
  | 9 => 1#1
  | 10 => 1#1
  | 11 => 1#1
  | 12 => 1#1
  | 13 => 1#1
  | 14 => 1#1
  | 15 => 1#1
  | 16 => 1#1
  | 17 => 1#1
  | 18 => 0#1
  | 19 => 1#1
  | 20 => 1#1
  | 21 => 1#1
  | 22 => 1#1
  | 23 => 1#1
  | 24 => 1#1
  | 25 => 1#1
  | 26 => 1#1
  | 27 => 1#1
  | 28 => 1#1
  | 29 => 1#1
  | 30 => 1#1
  | 31 => 1#1
  | 32 => 1#1
  | 33 => 1#1
  | 34 => 1#1
  | 35 => 1#1
  | 36 => 1#1
  | 37 => 1#1
  | 38 => 1#1
  | 39 => 1#1
  | 40 => 1#1
  | 41 => 1#1
  | 42 => 1#1
  | 43 => 1#1
  | 44 => 1#1
  | 45 => 1#1
  | 46 => 1#1
  | 47 => 1#1
  | 48 => 1#1
  | 49 => 1#1
  | 50 => 0#1
  | 51 => 1#1
  | 52 => 1#1
  | 53 => 0#1
  | 54 => 1#1
  | 55 => 1#1
  | 56 => 1#1
  | 57 => 0#1
  | 58 => 1#1
  | 59 => 1#1
  | 60 => 1#1
  | 61 => 1#1
  | 62 => 1#1
  | 63 => 0#1
  | 64 => 1#1
  | 65 => 1#1
  | 66 => 1#1
  | 67 => 1#1
  | 68 => 1#1
  | 69 => 1#1
  | 70 => 1#1
  | 71 => 1#1
  | 72 => 1#1
  | 73 => 1#1
  | 74 => 1#1
  | 75 => 1#1
  | 76 => 1#1
  | 77 => 1#1
  | 78 => 1#1
  | 79 => 1#1
  | 80 => 1#1
  | 81 => 1#1
  | 82 => 1#1
  | 83 => 1#1
  | 84 => 1#1
  | 85 => 1#1
  | 86 => 1#1
  | 87 => 1#1
  | 88 => 1#1
  | 89 => 1#1
  | 90 => 1#1
  | 91 => 1#1
  | 92 => 1#1
  | 93 => 1#1
  | 94 => 1#1
  | 95 => 1#1
  | 96 => 1#1
  | 97 => 1#1
  | 98 => 1#1
  | 99 => 1#1
  | 100 => 1#1
  | 101 => 1#1
  | 102 => 1#1
  | 103 => 1#1
  | 104 => 1#1
  | 105 => 1#1
  | 106 => 1#1
  | 107 => 1#1
  | 108 => 1#1
  | 109 => 1#1
  | 110 => 1#1
  | 111 => 1#1
  | 112 => 1#1
  | 113 => 1#1
  | 114 => 1#1
  | 115 => 1#1
  | 116 => 1#1
  | 117 => 1#1
  | 118 => 1#1
  | 119 => 1#1
  | 120 => 1#1
  | 121 => 1#1
  | 122 => 1#1
  | 123 => 1#1
  | 124 => 1#1
  | 125 => 1#1
  | 126 => 1#1
  | 127 => 1#1
  | _ => 0#1

noncomputable abbrev lit0t0_2 (i : Nat) : BitVec 1 := match i % 128 with
  | 0 => 1#1
  | 1 => 1#1
  | 2 => 1#1
  | 3 => 1#1
  | 4 => 1#1
  | 5 => 1#1
  | 6 => 1#1
  | 7 => 1#1
  | 8 => 1#1
  | 9 => 1#1
  | 10 => 1#1
  | 11 => 0#1
  | 12 => 1#1
  | 13 => 0#1
  | 14 => 0#1
  | 15 => 1#1
  | 16 => 1#1
  | 17 => 1#1
  | 18 => 1#1
  | 19 => 1#1
  | 20 => 1#1
  | 21 => 1#1
  | 22 => 1#1
  | 23 => 1#1
  | 24 => 1#1
  | 25 => 1#1
  | 26 => 1#1
  | 27 => 1#1
  | 28 => 1#1
  | 29 => 1#1
  | 30 => 1#1
  | 31 => 1#1
  | 32 => 1#1
  | 33 => 1#1
  | 34 => 1#1
  | 35 => 0#1
  | 36 => 1#1
  | 37 => 1#1
  | 38 => 1#1
  | 39 => 1#1
  | 40 => 1#1
  | 41 => 1#1
  | 42 => 1#1
  | 43 => 1#1
  | 44 => 1#1
  | 45 => 1#1
  | 46 => 1#1
  | 47 => 1#1
  | 48 => 1#1
  | 49 => 1#1
  | 50 => 1#1
  | 51 => 1#1
  | 52 => 0#1
  | 53 => 1#1
  | 54 => 0#1
  | 55 => 0#1
  | 56 => 0#1
  | 57 => 1#1
  | 58 => 0#1
  | 59 => 1#1
  | 60 => 1#1
  | 61 => 0#1
  | 62 => 0#1
  | 63 => 1#1
  | 64 => 1#1
  | 65 => 0#1
  | 66 => 1#1
  | 67 => 1#1
  | 68 => 0#1
  | 69 => 1#1
  | 70 => 1#1
  | 71 => 1#1
  | 72 => 1#1
  | 73 => 1#1
  | 74 => 1#1
  | 75 => 1#1
  | 76 => 1#1
  | 77 => 1#1
  | 78 => 1#1
  | 79 => 1#1
  | 80 => 1#1
  | 81 => 1#1
  | 82 => 1#1
  | 83 => 1#1
  | 84 => 1#1
  | 85 => 1#1
  | 86 => 1#1
  | 87 => 1#1
  | 88 => 1#1
  | 89 => 1#1
  | 90 => 1#1
  | 91 => 1#1
  | 92 => 1#1
  | 93 => 1#1
  | 94 => 1#1
  | 95 => 1#1
  | 96 => 1#1
  | 97 => 1#1
  | 98 => 1#1
  | 99 => 1#1
  | 100 => 1#1
  | 101 => 1#1
  | 102 => 1#1
  | 103 => 1#1
  | 104 => 1#1
  | 105 => 1#1
  | 106 => 1#1
  | 107 => 1#1
  | 108 => 1#1
  | 109 => 1#1
  | 110 => 1#1
  | 111 => 1#1
  | 112 => 1#1
  | 113 => 1#1
  | 114 => 1#1
  | 115 => 1#1
  | 116 => 1#1
  | 117 => 1#1
  | 118 => 1#1
  | 119 => 0#1
  | 120 => 1#1
  | 121 => 1#1
  | 122 => 1#1
  | 123 => 1#1
  | 124 => 1#1
  | 125 => 1#1
  | 126 => 1#1
  | 127 => 1#1
  | _ => 0#1

noncomputable abbrev lit0t0_3 (i : Nat) : BitVec 1 := match i % 128 with
  | 0 => 1#1
  | 1 => 1#1
  | 2 => 1#1
  | 3 => 1#1
  | 4 => 1#1
  | 5 => 1#1
  | 6 => 1#1
  | 7 => 1#1
  | 8 => 1#1
  | 9 => 1#1
  | 10 => 1#1
  | 11 => 1#1
  | 12 => 1#1
  | 13 => 1#1
  | 14 => 1#1
  | 15 => 1#1
  | 16 => 1#1
  | 17 => 1#1
  | 18 => 0#1
  | 19 => 1#1
  | 20 => 1#1
  | 21 => 0#1
  | 22 => 1#1
  | 23 => 1#1
  | 24 => 1#1
  | 25 => 0#1
  | 26 => 1#1
  | 27 => 1#1
  | 28 => 1#1
  | 29 => 1#1
  | 30 => 1#1
  | 31 => 0#1
  | 32 => 1#1
  | 33 => 1#1
  | 34 => 1#1
  | 35 => 1#1
  | 36 => 1#1
  | 37 => 1#1
  | 38 => 1#1
  | 39 => 1#1
  | 40 => 1#1
  | 41 => 1#1
  | 42 => 1#1
  | 43 => 1#1
  | 44 => 1#1
  | 45 => 1#1
  | 46 => 1#1
  | 47 => 1#1
  | 48 => 1#1
  | 49 => 1#1
  | 50 => 1#1
  | 51 => 1#1
  | 52 => 1#1
  | 53 => 1#1
  | 54 => 1#1
  | 55 => 1#1
  | 56 => 1#1
  | 57 => 1#1
  | 58 => 1#1
  | 59 => 1#1
  | 60 => 1#1
  | 61 => 1#1
  | 62 => 1#1
  | 63 => 1#1
  | 64 => 1#1
  | 65 => 1#1
  | 66 => 1#1
  | 67 => 1#1
  | 68 => 1#1
  | 69 => 1#1
  | 70 => 1#1
  | 71 => 1#1
  | 72 => 1#1
  | 73 => 1#1
  | 74 => 1#1
  | 75 => 1#1
  | 76 => 1#1
  | 77 => 1#1
  | 78 => 1#1
  | 79 => 1#1
  | 80 => 1#1
  | 81 => 1#1
  | 82 => 1#1
  | 83 => 1#1
  | 84 => 0#1
  | 85 => 0#1
  | 86 => 0#1
  | 87 => 0#1
  | 88 => 0#1
  | 89 => 0#1
  | 90 => 0#1
  | 91 => 0#1
  | 92 => 0#1
  | 93 => 0#1
  | 94 => 0#1
  | 95 => 0#1
  | 96 => 0#1
  | 97 => 0#1
  | 98 => 0#1
  | 99 => 0#1
  | 100 => 0#1
  | 101 => 0#1
  | 102 => 0#1
  | 103 => 0#1
  | 104 => 0#1
  | 105 => 0#1
  | 106 => 0#1
  | 107 => 0#1
  | 108 => 0#1
  | 109 => 0#1
  | 110 => 0#1
  | 111 => 0#1
  | 112 => 0#1
  | 113 => 0#1
  | 114 => 0#1
  | 115 => 0#1
  | 116 => 0#1
  | 117 => 0#1
  | 118 => 0#1
  | 119 => 0#1
  | 120 => 0#1
  | 121 => 0#1
  | 122 => 0#1
  | 123 => 0#1
  | 124 => 0#1
  | 125 => 0#1
  | 126 => 0#1
  | 127 => 0#1
  | _ => 0#1

noncomputable abbrev lit0t0_4 (i : Nat) : BitVec 1 := match i % 128 with
  | 0 => 0#1
  | 1 => 0#1
  | 2 => 0#1
  | 3 => 0#1
  | 4 => 0#1
  | 5 => 0#1
  | 6 => 0#1
  | 7 => 0#1
  | 8 => 0#1
  | 9 => 0#1
  | 10 => 0#1
  | 11 => 0#1
  | 12 => 0#1
  | 13 => 0#1
  | 14 => 0#1
  | 15 => 0#1
  | 16 => 0#1
  | 17 => 0#1
  | 18 => 0#1
  | 19 => 0#1
  | 20 => 0#1
  | 21 => 0#1
  | 22 => 0#1
  | 23 => 0#1
  | 24 => 0#1
  | 25 => 0#1
  | 26 => 0#1
  | 27 => 0#1
  | 28 => 0#1
  | 29 => 0#1
  | 30 => 0#1
  | _ => 0#1

noncomputable abbrev lit0t (i : Nat) : BitVec 1 := match i / 128 with
  | 0 => lit0t0_0 i
  | 1 => lit0t0_1 i
  | 2 => lit0t0_2 i
  | 3 => lit0t0_3 i
  | 4 => lit0t0_4 i
  | _ => 0#1

noncomputable abbrev lit0 : Fin 543 → BitVec 1 := fun ⟨i, _⟩ => lit0t i

def fn {F : FTy → Type} [FloatOps F] (main_arg0 : FVec F S32768x543x3 .f32) : IVec S_ 1 :=
  let main_c : IVec S543 1 := fun i => lit0 (S543.rowMajor i)
  let main_v0 : FVec F S32768x543x2 .f32 := (extractStridedSlice S32768x543x2 ![0, 0, 0] · slices_S32768x543x3_S32768x543x2_0_0_0) main_arg0
  let main_v1 : FVec F S32768x543x2 .f32 := Host.absf main_v0
  let main_cst : FVec F S_ .f32 := constant S_ .f32 0x7F800000#32
  let main_v2 : FVec F S32768x543x2 .f32 := broadcastInDim S32768x543x2 ![] bcast_S_S32768x543x2 main_cst
  let main_v3 : IVec S32768x543x2 1 := cmpf .olt main_v1 main_v2
  let main_v4 : IVec S1x543x1 1 := broadcastInDim S1x543x1 ![1] bcast_S543_S1x543x1_1 main_c
  let main_v5 : IVec S32768x543x2 1 := broadcastInDim S32768x543x2 ![0, 1, 2] bcast_S1x543x1_S32768x543x2_0_1_2 main_v4
  let main_v6 : IVec S32768x543x2 1 := ori main_v3 main_v5
  let main_c_0 : IVec S_ 1 := constantI S_ 1 1#1
  let main_v7 : IVec S_ 1 := (fun x v => Host.reduce IntOp.andi x v reducesTo_S32768x543x2_S_d0_1_2 h_S_) main_v6 main_c_0
  main_v7
-- ==== Kernel.lean ====
abbrev S32768x543x3 : Shape := ⟨3, ![32768, 543, 3]⟩
abbrev S64 : Shape := ⟨1, ![64]⟩
abbrev S236 : Shape := ⟨1, ![236]⟩
abbrev S64x236 : Shape := ⟨2, ![64, 236]⟩
abbrev S32768x1629 : Shape := ⟨2, ![32768, 1629]⟩
abbrev S1x64 : Shape := ⟨2, ![1, 64]⟩
abbrev S1629x236 : Shape := ⟨2, ![1629, 236]⟩
abbrev S1x236 : Shape := ⟨2, ![1, 236]⟩
abbrev S1x472 : Shape := ⟨2, ![1, 472]⟩
abbrev S256x1629 : Shape := ⟨2, ![256, 1629]⟩
abbrev S1x1629 : Shape := ⟨2, ![1, 1629]⟩
abbrev S1x2 : Shape := ⟨2, ![1, 2]⟩
abbrev S1x1 : Shape := ⟨2, ![1, 1]⟩
abbrev S1629 : Shape := ⟨1, ![1629]⟩
abbrev S256x64 : Shape := ⟨2, ![256, 64]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 15
  | .vmem => 14
  | .smem => 1
  | _ => 0

abbrev bufTy : (tb : Table) → Fin (tcTables nBuf tb) → BufTy
  | .hbm, ⟨0, _⟩ => ⟨S32768x543x3, .f32⟩
  | .hbm, ⟨1, _⟩ => ⟨S64, .f32⟩
  | .hbm, ⟨2, _⟩ => ⟨S64, .f32⟩
  | .hbm, ⟨3, _⟩ => ⟨S236, .i32⟩
  | .hbm, ⟨4, _⟩ => ⟨S64x236, .f32⟩
  | .hbm, ⟨5, _⟩ => ⟨S64x236, .f32⟩
  | .hbm, ⟨6, _⟩ => ⟨S32768x1629, .f32⟩
  | .hbm, ⟨7, _⟩ => ⟨S1x64, .f32⟩
  | .hbm, ⟨8, _⟩ => ⟨S1x64, .f32⟩
  | .hbm, ⟨9, _⟩ => ⟨S1629x236, .i32⟩
  | .hbm, ⟨10, _⟩ => ⟨S1x236, .i32⟩
  | .hbm, ⟨11, _⟩ => ⟨S1629x236, .i32⟩
  | .hbm, ⟨12, _⟩ => ⟨S1629x236, .i1⟩
  | .hbm, ⟨13, _⟩ => ⟨S1629x236, .f32⟩
  | .hbm, ⟨14, _⟩ => ⟨S1x472, .f32⟩
  | .local _ .vmem, ⟨0, _⟩ => ⟨S256x1629, .f32⟩
  | .local _ .vmem, ⟨1, _⟩ => ⟨S256x1629, .f32⟩
  | .local _ .vmem, ⟨2, _⟩ => ⟨S1x64, .f32⟩
  | .local _ .vmem, ⟨3, _⟩ => ⟨S1x64, .f32⟩
  | .local _ .vmem, ⟨4, _⟩ => ⟨S1629x236, .f32⟩
  | .local _ .vmem, ⟨5, _⟩ => ⟨S64x236, .f32⟩
  | .local _ .vmem, ⟨6, _⟩ => ⟨S64x236, .f32⟩
  | .local _ .vmem, ⟨7, _⟩ => ⟨S1x472, .f32⟩
  | .local _ .vmem, ⟨8, _⟩ => ⟨S1x1629, .f32⟩
  | .local _ .vmem, ⟨9, _⟩ => ⟨S1x1629, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .smem, ⟨0, _⟩ => ⟨S1x2, .f32⟩
  | _, _ => ⟨S32768x543x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_cst_1 : Ref sig .tc := ⟨.hbm, 4, rfl⟩
abbrev main_cst_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v112 : BitVec 1 := Scalar.cmpi .eq arg0 c127_i32
  let v113 : BitVec 32 := Scalar.extui v112
  let c0_i32_62 : BitVec 32 := 0#32
  let v114 : BitVec 1 := Scalar.cmpi .ne v113 c0_i32_62
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1629 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1629x236 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x236 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x236 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x472 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x543x3 : Shape := ⟨3, ![32768, 543, 3]⟩
abbrev S43 : Shape := ⟨1, ![43]⟩
abbrev S32768x543x2 : Shape := ⟨3, ![32768, 543, 2]⟩
abbrev S_ : Shape := ⟨0, ![]⟩
abbrev S43x1 : Shape := ⟨2, ![43, 1]⟩
abbrev S1 : Shape := ⟨1, ![1]⟩
abbrev S1x1 : Shape := ⟨2, ![1, 1]⟩
abbrev S32768x43x2 : Shape := ⟨3, ![32768, 43, 2]⟩
abbrev S32768x86 : Shape := ⟨2, ![32768, 86]⟩
abbrev S32768x21x2 : Shape := ⟨3, ![32768, 21, 2]⟩
abbrev S32768x42 : Shape := ⟨2, ![32768, 42]⟩
abbrev S32768x33x2 : Shape := ⟨3, ![32768, 33, 2]⟩
abbrev S32768x66 : Shape := ⟨2, ![32768, 66]⟩
abbrev S86 : Shape := ⟨1, ![86]⟩
abbrev S66 : Shape := ⟨1, ![66]⟩
abbrev S1x86 : Shape := ⟨2, ![1, 86]⟩
abbrev S1x66 : Shape := ⟨2, ![1, 66]⟩
abbrev S32768 : Shape := ⟨1, ![32768]⟩
abbrev S32768x1 : Shape := ⟨2, ![32768, 1]⟩
abbrev S42 : Shape := ⟨1, ![42]⟩
abbrev S1x42 : Shape := ⟨2, ![1, 42]⟩
abbrev S472 : Shape := ⟨1, ![472]⟩
abbrev S1x472 : Shape := ⟨2, ![1, 472]⟩

abbrev nBuf : Space → Nat
  | .hbm => 175
  | .vmem => 0
  | .smem => 0
  | _ => 0

abbrev hbmTy0_0 (i : Nat) : BufTy := match i % 128 with
  | 0 => ⟨S32768x543x3, .f32⟩
  | 1 => ⟨S43, .i32⟩
  | 2 => ⟨S32768x543x2, .f32⟩
  | 3 => ⟨S_, .i32⟩
  | 4 => ⟨S43, .i32⟩
  | 5 => ⟨S43, .i1⟩
  | 6 => ⟨S_, .i32⟩
  | 7 => ⟨S43, .i32⟩
  | 8 => ⟨S43, .i32⟩
  | 9 => ⟨S43, .i32⟩
  | 10 => ⟨S43x1, .i32⟩
  | 11 => ⟨S1, .i32⟩
  | 12 => ⟨S_, .i32⟩
  | 13 => ⟨S43x1, .i32⟩
  | 14 => ⟨S43x1, .i1⟩
  | 15 => ⟨S1x1, .i32⟩
  | 16 => ⟨S43x1, .i32⟩
  | 17 => ⟨S43x1, .i1⟩
  | 18 => ⟨S43x1, .i1⟩
  | 19 => ⟨S_, .i1⟩
  | 20 => ⟨S43, .i1⟩
  | 21 => ⟨S32768x43x2, .f32⟩
  | 22 => ⟨S32768x43x2, .i1⟩
  | 23 => ⟨S_, .f32⟩
  | 24 => ⟨S32768x43x2, .f32⟩
  | 25 => ⟨S32768x43x2, .f32⟩
  | 26 => ⟨S32768x86, .f32⟩
  | 27 => ⟨S32768x21x2, .f32⟩
  | 28 => ⟨S32768x42, .f32⟩
  | 29 => ⟨S32768x33x2, .f32⟩
  | 30 => ⟨S32768x66, .f32⟩
  | 31 => ⟨S32768x21x2, .f32⟩
  | 32 => ⟨S32768x42, .f32⟩
  | 33 => ⟨S_, .f32⟩
  | 34 => ⟨S86, .f32⟩
  | 35 => ⟨S_, .f32⟩
  | 36 => ⟨S86, .f32⟩
  | 37 => ⟨S86, .f32⟩
  | 38 => ⟨S_, .f32⟩
  | 39 => ⟨S66, .f32⟩
  | 40 => ⟨S_, .f32⟩
  | 41 => ⟨S66, .f32⟩
  | 42 => ⟨S66, .f32⟩
  | 43 => ⟨S_, .i32⟩
  | 44 => ⟨S_, .f32⟩
  | 45 => ⟨S86, .f32⟩
  | 46 => ⟨S1x86, .f32⟩
  | 47 => ⟨S_, .f32⟩
  | 48 => ⟨S1x86, .f32⟩
  | 49 => ⟨S1x86, .f32⟩
  | 50 => ⟨S32768x86, .f32⟩
  | 51 => ⟨S32768x86, .f32⟩
  | 52 => ⟨S32768x86, .f32⟩
  | 53 => ⟨S_, .f32⟩
  | 54 => ⟨S_, .f32⟩
  | 55 => ⟨S_, .f32⟩
  | 56 => ⟨S_, .f32⟩
  | 57 => ⟨S86, .f32⟩
  | 58 => ⟨S86, .f32⟩
  | 59 => ⟨S86, .f32⟩
  | 60 => ⟨S_, .f32⟩
  | 61 => ⟨S_, .i1⟩
  | 62 => ⟨S_, .f32⟩
  | 63 => ⟨S_, .f32⟩
  | 64 => ⟨S86, .f32⟩
  | 65 => ⟨S86, .f32⟩
  | 66 => ⟨S86, .f32⟩
  | 67 => ⟨S_, .i32⟩
  | 68 => ⟨S_, .f32⟩
  | 69 => ⟨S66, .f32⟩
  | 70 => ⟨S1x66, .f32⟩
  | 71 => ⟨S_, .f32⟩
  | 72 => ⟨S1x66, .f32⟩
  | 73 => ⟨S1x66, .f32⟩
  | 74 => ⟨S32768x66, .f32⟩
  | 75 => ⟨S32768x66, .f32⟩
  | 76 => ⟨S32768x66, .f32⟩
  | 77 => ⟨S_, .f32⟩
  | 78 => ⟨S_, .f32⟩
  | 79 => ⟨S_, .f32⟩
  | 80 => ⟨S_, .f32⟩
  | 81 => ⟨S66, .f32⟩
  | 82 => ⟨S66, .f32⟩
  | 83 => ⟨S66, .f32⟩
  | 84 => ⟨S_, .f32⟩
  | 85 => ⟨S_, .i1⟩
  | 86 => ⟨S_, .f32⟩
  | 87 => ⟨S_, .f32⟩
  | 88 => ⟨S66, .f32⟩
  | 89 => ⟨S66, .f32⟩
  | 90 => ⟨S66, .f32⟩
  | 91 => ⟨S32768x42, .i1⟩
  | 92 => ⟨S_, .i1⟩
  | 93 => ⟨S32768, .i1⟩
  | 94 => ⟨S32768, .i1⟩
  | 95 => ⟨S32768, .f32⟩
  | 96 => ⟨S32768x1, .f32⟩
  | 97 => ⟨S_, .f32⟩
  | 98 => ⟨S_, .f32⟩
  | 99 => ⟨S_, .f32⟩
  | 100 => ⟨S32768x1, .f32⟩
  | 101 => ⟨S32768x1, .i1⟩
  | 102 => ⟨S_, .f32⟩
  | 103 => ⟨S_, .f32⟩
  | 104 => ⟨S32768x42, .i1⟩
  | 105 => ⟨S32768x42, .f32⟩
  | 106 => ⟨S32768x42, .f32⟩
  | 107 => ⟨S_, .f32⟩
  | 108 => ⟨S42, .f32⟩
  | 109 => ⟨S42, .f32⟩
  | 110 => ⟨S42, .f32⟩
  | 111 => ⟨S_, .f32⟩
  | 112 => ⟨S32768x1, .f32⟩
  | 113 => ⟨S32768x1, .i1⟩
  | 114 => ⟨S1x42, .f32⟩
  | 115 => ⟨S32768x42, .f32⟩
  | 116 => ⟨S32768x42, .f32⟩
  | 117 => ⟨S32768x42, .f32⟩
  | 118 => ⟨S_, .f32⟩
  | 119 => ⟨S_, .f32⟩
  | 120 => ⟨S32768x42, .i1⟩
  | 121 => ⟨S32768x42, .f32⟩
  | 122 => ⟨S32768x42, .f32⟩
  | 123 => ⟨S_, .f32⟩
  | 124 => ⟨S42, .f32⟩
  | 125 => ⟨S_, .f32⟩
  | 126 => ⟨S_, .f32⟩
  | 127 => ⟨S42, .f32⟩
  | _ => ⟨S32768x543x3, .f32⟩

abbrev hbmTy0_1 (i : Nat) : BufTy := match i % 128 with
  | 0 => ⟨S42, .f32⟩
  | 1 => ⟨S42, .f32⟩
  | 2 => ⟨S32768x42, .i1⟩
  | 3 => ⟨S_, .i1⟩
  | 4 => ⟨S32768, .i1⟩
  | 5 => ⟨S32768, .i1⟩
  | 6 => ⟨S32768, .f32⟩
  | 7 => ⟨S32768x1, .f32⟩
  | 8 => ⟨S_, .f32⟩
  | 9 => ⟨S_, .f32⟩
  | 10 => ⟨S_, .f32⟩
  | 11 => ⟨S32768x1, .f32⟩
  | 12 => ⟨S32768x1, .i1⟩
  | 13 => ⟨S_, .f32⟩
  | 14 => ⟨S_, .f32⟩
  | 15 => ⟨S32768x42, .i1⟩
  | 16 => ⟨S32768x42, .f32⟩
  | 17 => ⟨S32768x42, .f32⟩
  | 18 => ⟨S_, .f32⟩
  | 19 => ⟨S42, .f32⟩
  | 20 => ⟨S42, .f32⟩
  | 21 => ⟨S42, .f32⟩
  | 22 => ⟨S_, .f32⟩
  | 23 => ⟨S32768x1, .f32⟩
  | 24 => ⟨S32768x1, .i1⟩
  | 25 => ⟨S1x42, .f32⟩
  | 26 => ⟨S32768x42, .f32⟩
  | 27 => ⟨S32768x42, .f32⟩
  | 28 => ⟨S32768x42, .f32⟩
  | 29 => ⟨S_, .f32⟩
  | 30 => ⟨S_, .f32⟩
  | 31 => ⟨S32768x42, .i1⟩
  | 32 => ⟨S32768x42, .f32⟩
  | 33 => ⟨S32768x42, .f32⟩
  | 34 => ⟨S_, .f32⟩
  | 35 => ⟨S42, .f32⟩
  | 36 => ⟨S_, .f32⟩
  | 37 => ⟨S_, .f32⟩
  | 38 => ⟨S42, .f32⟩
  | 39 => ⟨S42, .f32⟩
  | 40 => ⟨S42, .f32⟩
  | 41 => ⟨S472, .f32⟩
  | 42 => ⟨S472, .i1⟩
  | 43 => ⟨S_, .f32⟩
  | 44 => ⟨S472, .f32⟩
  | 45 => ⟨S472, .f32⟩
  | 46 => ⟨S1x472, .f32⟩
  | _ => ⟨S32768x543x3, .f32⟩

abbrev hbmTy (i : Nat) : BufTy := match i / 128 with
  | 0 => hbmTy0_0 i
  | 1 => hbmTy0_1 i
  | _ => ⟨S32768x543x3, .f32⟩

abbrev bufTy : (tb : Table) → Fin (tcTables nBuf tb) → BufTy
  | .hbm, ⟨i, _⟩ => hbmTy i
  | _, _ => ⟨S32768x543x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_cst_0 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_cst_1 : Ref sig .tc := ⟨.hbm, 54, rfl⟩
abbrev main_call1_call0_v8 : Ref sig .tc := ⟨.hbm, 55, rfl⟩
abbrev main_call1_call0_cst_2 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_call0_cst_3 : Ref sig .tc := ⟨.hbm, 60, rfl⟩
abbrev main_call1_call0_v12 : Ref sig .tc := ⟨.hbm, 61, rfl⟩
abbrev main_call1_call0_cst_4 : Ref sig .tc := ⟨.hbm, 62, rfl⟩
abbrev main_call1_call0_call0_v0 : Ref sig .tc := ⟨.hbm, 63, rfl⟩
abbrev main_call1_call0_call0_v1 : Ref sig .tc := ⟨.hbm, 64, rfl⟩
abbrev main_call1_v0 : Ref sig .tc := ⟨.hbm, 65, rfl⟩
abbrev main_v15 : Ref sig .tc := ⟨.hbm, 66, rfl⟩
abbrev main_c_4 : Ref sig .tc := ⟨.hbm, 67, rfl⟩
abbrev main_call2_call0_cst : Ref sig .tc := ⟨.hbm, 68, rfl⟩
abbrev main_call2_call0_v0 : Ref sig .tc := ⟨.hbm, 69, rfl⟩
abbrev main_call2_call0_v1 : Ref sig .tc := ⟨.hbm, 70, rfl⟩
abbrev main_call2_call0_cst_0 : Ref sig .tc := ⟨.hbm, 71, rfl⟩
abbrev main_call2_call0_v2 : Ref sig .tc := ⟨.hbm, 72, rfl⟩
abbrev main_call2_call0_v3 : Ref sig .tc := ⟨.hbm, 73, rfl⟩
abbrev main_call2_call0_v4 : Ref sig .tc := ⟨.hbm, 74, rfl⟩
abbrev main_call2_call0_v5 : Ref sig .tc := ⟨.hbm, 75, rfl⟩
abbrev main_call2_call0_v6 : Ref sig .tc := ⟨.hbm, 76, rfl⟩
abbrev main_call2_call0_v7 : Ref sig .tc := ⟨.hbm, 77, rfl⟩
abbrev main_call2_call0_cst_1 : Ref sig .tc := ⟨.hbm, 78, rfl⟩
abbrev main_call2_call0_v8 : Ref sig .tc := ⟨.hbm, 79, rfl⟩
abbrev main_call2_call0_cst_2 : Ref sig .tc := ⟨.hbm, 80, rfl⟩
abbrev main_call2_call0_v9 : Ref sig .tc := ⟨.hbm, 81, rfl⟩
abbrev main_call2_call0_v10 : Ref sig .tc := ⟨.hbm, 82, rfl⟩
abbrev main_call2_call0_v11 : Ref sig .tc := ⟨.hbm, 83, rfl⟩
abbrev main_call2_call0_cst_3 : Ref sig .tc := ⟨.hbm, 84, rfl⟩
abbrev main_call2_call0_v12 : Ref sig .tc := ⟨.hbm, 85, rfl⟩
abbrev main_call2_call0_cst_4 : Ref sig .tc := ⟨.hbm, 86, rfl⟩
abbrev main_call2_call0_call0_v0 : Ref sig .tc := ⟨.hbm, 87, rfl⟩
abbrev main_call2_call0_call0_v1 : Ref sig .tc := ⟨.hbm, 88, rfl⟩
abbrev main_call2_v0 : Ref sig .tc := ⟨.hbm, 89, rfl⟩
abbrev main_v16 : Ref sig .tc := ⟨.hbm, 90, rfl⟩
abbrev main_v17 : Ref sig .tc := ⟨.hbm, 91, rfl⟩
abbrev main_c_5 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_cst_6 : Ref sig .tc := ⟨.hbm, 97, rfl⟩
abbrev main_v22 : Ref sig .tc := ⟨.hbm, 98, rfl⟩
abbrev main_cst_7 : Ref sig .tc := ⟨.hbm, 99, rfl⟩
abbrev main_v23 : Ref sig .tc := ⟨.hbm, 100, rfl⟩
abbrev main_v24 : Ref sig .tc := ⟨.hbm, 101, rfl⟩
abbrev main_cst_8 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v25 : Ref sig .tc := ⟨.hbm, 106, rfl⟩
abbrev main_cst_9 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_cst_10 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_cst_11 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v35 : Ref sig .tc := ⟨.hbm, 122, rfl⟩
abbrev main_cst_12 : Ref sig .tc := ⟨.hbm, 123, rfl⟩
abbrev main_v36 : Ref sig .tc := ⟨.hbm, 124, rfl⟩
abbrev main_cst_13 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_c_14 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_cst_15 : Ref sig .tc := ⟨.hbm, 136, rfl⟩
abbrev main_v46 : Ref sig .tc := ⟨.hbm, 137, rfl⟩
abbrev main_cst_16 : Ref sig .tc := ⟨.hbm, 138, rfl⟩
abbrev main_v47 : Ref sig .tc := ⟨.hbm, 139, rfl⟩
abbrev main_v48 : Ref sig .tc := ⟨.hbm, 140, rfl⟩
abbrev main_cst_17 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v49 : Ref sig .tc := ⟨.hbm, 145, rfl⟩
abbrev main_cst_18 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_cst_19 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_cst_20 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v59 : Ref sig .tc := ⟨.hbm, 161, rfl⟩
abbrev main_cst_21 : Ref sig .tc := ⟨.hbm, 162, rfl⟩
abbrev main_v60 : Ref sig .tc := ⟨.hbm, 163, rfl⟩
abbrev main_cst_22 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_cst_23 : Ref sig .tc := ⟨.hbm, 171, rfl⟩
abbrev main_call7_v0 : Ref sig .tc := ⟨.hbm, 172, rfl⟩
abbrev main_v67 : Ref sig .tc := ⟨.hbm, 173, rfl⟩
abbrev main_v68 : Ref sig .tc := ⟨.hbm, 174, rfl⟩

abbrev nD : Nat := 1
abbrev τ : Topo := Topo.v7x

variable {F : FTy → Type} [FloatOps F]
-- ==== Proof.Carry.lean ====
module

public import proofs.«01_k».proof.Proof.Gen.KernelIdeal.Value
public import Idealize.ShloMosaic.Lib.Pipeline.ValueKit
public import Idealize.ShloMosaic.Lib.Pipeline.ReadBack

/-
  What the kernel carries from block to block. At the first block each running array is started from zero; at every
  later block it is what the block before left, with the block's own part added. The last block also writes the result,
  from the running arrays it has just brought up to date.
-/

set_option maxRecDepth 16384

@[expose] public noncomputable section

namespace Cert.Carry

open Cert.KernelIdeal Cert.KernelIdeal.Gen Idealize.ShloMosaic
open Idealize.ShloMosaic.TcCoe Idealize.SL.Sem

variable (m : (ℓ : Loc nD τ sig) → Buf (Elt Ideal) ℓ) (c : Dev nD)

/-- The sums over all columns after the first block. -/
theorem sums_first (t : Fin cfg0.N) (h0 : t.val % 128 = 0) :
    (outsAt0 m c t.val t.isLt).2.1 = k0_pay16 (iblk m c 0 t) (k0_pay9 (F := Ideal)) := by
  rw [outsAt0_A m c t h0 (by omega)]
  frame_out

/-- The sums over all columns after a later block. -/
theorem sums_next (t : Fin cfg0.N) (h0 : ¬t.val % 128 = 0) :
    (outsAt0 m c t.val t.isLt).2.1 = k0_pay16 (iblk m c 0 t) (outsAt0 m c (t.val - 1) (Nat.lt_of_le_of_lt (Nat.sub_le _ _) t.isLt)).2.1 := by
  by_cases h1 : t.val % 128 = 127
  · rw [outsAt0_C m c t h0 h1]
    frame_out
    simp only [read_unread_whole]
  · rw [outsAt0_B m c t h0 h1]
    frame_out
    simp only [read_unread_whole]

/-- The sums of squares over all columns after the first block. -/
theorem squares_first (t : Fin cfg0.N) (h0 : t.val % 128 = 0) :
    (outsAt0 m c t.val t.isLt).2.2.1 = k0_pay17 (iblk m c 0 t) (k0_pay10 (F := Ideal)) := by
  rw [outsAt0_A m c t h0 (by omega)]
  frame_out

/-- The sums of squares over all columns after a later block. -/
theorem squares_next (t : Fin cfg0.N) (h0 : ¬t.val % 128 = 0) :
    (outsAt0 m c t.val t.isLt).2.2.1 = k0_pay17 (iblk m c 0 t) (outsAt0 m c (t.val - 1) (Nat.lt_of_le_of_lt (Nat.sub_le _ _) t.isLt)).2.2.1 := by
  by_cases h1 : t.val % 128 = 127
  · rw [outsAt0_C m c t h0 h1]
    frame_out
    simp only [read_unread_whole]
  · rw [outsAt0_B m c t h0 h1]
    frame_out
    simp only [read_unread_whole]

/-- The first hand's sums after the first block. -/
theorem leftSums_first (t : Fin cfg0.N) (h0 : t.val % 128 = 0) :
    (outsAt0 m c t.val t.isLt).2.2.2.1 = k0_pay26 (k0_pay18 (iblk m c 0 t)) (k0_pay21 (iblk m c 0 t) (iblk m c 1 t)) (k0_pay11 (F := Ideal)) := by
  rw [outsAt0_A m c t h0 (by omega)]
  frame_out

/-- The first hand's sums after a later block. -/
theorem leftSums_next (t : Fin cfg0.N) (h0 : ¬t.val % 128 = 0) :
    (outsAt0 m c t.val t.isLt).2.2.2.1 = k0_pay26 (k0_pay18 (iblk m c 0 t)) (k0_pay21 (iblk m c 0 t) (iblk m c 1 t)) (outsAt0 m c (t.val - 1) (Nat.lt_of_le_of_lt (Nat.sub_le _ _) t.isLt)).2.2.2.1 := by
  by_cases h1 : t.val % 128 = 127
  · rw [outsAt0_C m c t h0 h1]
    frame_out
    simp only [read_unread_whole]
  · rw [outsAt0_B m c t h0 h1]
    frame_out
    simp only [read_unread_whole]

/-- The first hand's sums of squares after the first block. -/
theorem leftSquares_first (t : Fin cfg0.N) (h0 : t.val % 128 = 0) :
    (outsAt0 m c t.val t.isLt).2.2.2.2.1 = k0_pay27 (k0_pay24 (k0_pay18 (iblk m c 0 t)) (k0_pay21 (iblk m c 0 t) (iblk m c 1 t))) (k0_pay12 (F := Ideal)) := by
  rw [outsAt0_A m c t h0 (by omega)]
  frame_out

/-- The first hand's sums of squares after a later block. -/
theorem leftSquares_next (t : Fin cfg0.N) (h0 : ¬t.val % 128 = 0) :
    (outsAt0 m c t.val t.isLt).2.2.2.2.1 = k0_pay27 (k0_pay24 (k0_pay18 (iblk m c 0 t)) (k0_pay21 (iblk m c 0 t) (iblk m c 1 t))) (outsAt0 m c (t.val - 1) (Nat.lt_of_le_of_lt (Nat.sub_le _ _) t.isLt)).2.2.2.2.1 := by
  by_cases h1 : t.val % 128 = 127
  · rw [outsAt0_C m c t h0 h1]
    frame_out
    simp only [read_unread_whole]
  · rw [outsAt0_B m c t h0 h1]
    frame_out
    simp only [read_unread_whole]

/-- The second hand's sums after the first block. -/
theorem rightSums_first (t : Fin cfg0.N) (h0 : t.val % 128 = 0) :
    (outsAt0 m c t.val t.isLt).2.2.2.2.2.1 = k0_pay28 (k0_pay25 (k0_pay19 (iblk m c 0 t)) (k0_pay20 (iblk m c 2 t))) (k0_pay13 (F := Ideal)) := by
  rw [outsAt0_A m c t h0 (by omega)]
  frame_out

/-- The second hand's sums after a later block. -/
theorem rightSums_next (t : Fin cfg0.N) (h0 : ¬t.val % 128 = 0) :
    (outsAt0 m c t.val t.isLt).2.2.2.2.2.1 = k0_pay28 (k0_pay25 (k0_pay19 (iblk m c 0 t)) (k0_pay20 (iblk m c 2 t))) (outsAt0 m c (t.val - 1) (Nat.lt_of_le_of_lt (Nat.sub_le _ _) t.isLt)).2.2.2.2.2.1 := by
  by_cases h1 : t.val % 128 = 127
  · rw [outsAt0_C m c t h0 h1]
    frame_out
    simp only [read_unread_whole]
  · rw [outsAt0_B m c t h0 h1]
    frame_out
    simp only [read_unread_whole]

/-- The second hand's sums of squares after the first block. -/
theorem rightSquares_first (t : Fin cfg0.N) (h0 : t.val % 128 = 0) :
    (outsAt0 m c t.val t.isLt).2.2.2.2.2.2.1 = k0_pay29 (k0_pay25 (k0_pay19 (iblk m c 0 t)) (k0_pay20 (iblk m c 2 t))) (k0_pay14 (F := Ideal)) := by
  rw [outsAt0_A m c t h0 (by omega)]
  frame_out

/-- The second hand's sums of squares after a later block. -/
theorem rightSquares_next (t : Fin cfg0.N) (h0 : ¬t.val % 128 = 0) :
    (outsAt0 m c t.val t.isLt).2.2.2.2.2.2.1 = k0_pay29 (k0_pay25 (k0_pay19 (iblk m c 0 t)) (k0_pay20 (iblk m c 2 t))) (outsAt0 m c (t.val - 1) (Nat.lt_of_le_of_lt (Nat.sub_le _ _) t.isLt)).2.2.2.2.2.2.1 := by
  by_cases h1 : t.val % 128 = 127
  · rw [outsAt0_C m c t h0 h1]
    frame_out
    simp only [read_unread_whole]
  · rw [outsAt0_B m c t h0 h1]
    frame_out
    simp only [read_unread_whole]

/-! ## The two counts -/

/-- A pair stored one entry at a time, the second entry last, read at the first entry. -/
theorem pair_first (P Q : S1x1.Idx → EReal) (L : List (View.Piece (Elt Ideal) S1x2 .f32)) :
    View.canon (⟨Rect.unit (s := S1x2) ![0, 1] ![1, 1] inb_S1x2_S1x1_0_1, P⟩ ::
      ⟨Rect.unit (s := S1x2) ![0, 0] ![1, 1] inb_S1x2_S1x1_0_0, Q⟩ :: L) (ix2 0 0) = Q (ix2 0 0) := by
  rw [View.canon_cons_of_not_mem _ _ (by rw [Rect.mem_set_unit]; decide)]
  refine Eq.trans (congrArg _ ?_) (View.canon_cons_emb (Rect.unit (s := S1x2) ![0, 0] ![1, 1] inb_S1x2_S1x1_0_0) Q L (ix2 0 0 : S1x1.Idx))
  funext a; apply Fin.ext; fin_cases a <;> rfl

/-- A pair stored one entry at a time, the second entry last, read at the second entry. -/
theorem pair_second (P : S1x1.Idx → EReal) (L : List (View.Piece (Elt Ideal) S1x2 .f32)) :
    View.canon (⟨Rect.unit (s := S1x2) ![0, 1] ![1, 1] inb_S1x2_S1x1_0_1, P⟩ :: L) (ix2 0 1) = P (ix2 0 0) := by
  refine Eq.trans (congrArg _ ?_) (View.canon_cons_emb (Rect.unit (s := S1x2) ![0, 1] ![1, 1] inb_S1x2_S1x1_0_1) P L (ix2 0 0 : S1x1.Idx))
  funext a; apply Fin.ext; fin_cases a <;> rfl

/-- The load of the first entry of a pair. -/
theorem ld_first (X : Vec Ideal S1x2 .f32) (y : (Rect.unit (s := S1x2) ![0, 0] ![1, 1] inb_S1x2_S1x1_0_0).shape.Idx) :
    View.ld X (Rect.unit ![0, 0] ![1, 1] inb_S1x2_S1x1_0_0) y = X (ix2 0 0) := by
  refine View.ld_unit_apply_of _ _ _ _ _ _ fun a => ?_
  have h : (y a).val = 0 := by
    have := (y a).isLt
    have e : (Rect.unit (s := S1x2) ![0, 0] ![1, 1] inb_S1x2_S1x1_0_0).shape.size a = 1 := by fin_cases a <;> rfl
    omega
  rw [h]
  fin_cases a <;> rfl

/-- The load of the second entry of a pair. -/
theorem ld_second (X : Vec Ideal S1x2 .f32) (y : (Rect.unit (s := S1x2) ![0, 1] ![1, 1] inb_S1x2_S1x1_0_1).shape.Idx) :
    View.ld X (Rect.unit ![0, 1] ![1, 1] inb_S1x2_S1x1_0_1) y = X (ix2 0 1) := by
  refine View.ld_unit_apply_of _ _ _ _ _ _ fun a => ?_
  have h : (y a).val = 0 := by
    have := (y a).isLt
    have e : (Rect.unit (s := S1x2) ![0, 1] ![1, 1] inb_S1x2_S1x1_0_1).shape.size a = 1 := by fin_cases a <;> rfl
    omega
  rw [h]
  fin_cases a <;> rfl

/-- The first hand's count of rows after the first block. -/
theorem leftCount_first (t : Fin cfg0.N) (h0 : t.val % 128 = 0) :
    (outsAt0 m c t.val t.isLt).2.2.2.2.2.2.2 (ix2 0 0) = k0_pay30 (k0_pay22 (k0_pay21 (iblk m c 0 t) (iblk m c 1 t))) (FloatOps.ofBits (F := Ideal) FTy.f32 0#32) := by
  rw [outsAt0_A m c t h0 (by omega)]
  frame_out
  rw [pair_first]

/-- The first hand's count of rows after a later block. -/
theorem leftCount_next (t : Fin cfg0.N) (h0 : ¬t.val % 128 = 0) :
    (outsAt0 m c t.val t.isLt).2.2.2.2.2.2.2 (ix2 0 0) = k0_pay30 (k0_pay22 (k0_pay21 (iblk m c 0 t) (iblk m c 1 t))) ((outsAt0 m c (t.val - 1) (Nat.lt_of_le_of_lt (Nat.sub_le _ _) t.isLt)).2.2.2.2.2.2.2 (ix2 0 0)) := by
  by_cases h1 : t.val % 128 = 127
  · rw [outsAt0_C m c t h0 h1]
    frame_out
    rw [pair_first]
    rw [read_unread_whole, ld_first]
  · rw [outsAt0_B m c t h0 h1]
    frame_out
    rw [pair_first]
    rw [read_unread_whole, ld_first]

/-- The second hand's count of rows after the first block. -/
theorem rightCount_first (t : Fin cfg0.N) (h0 : t.val % 128 = 0) :
    (outsAt0 m c t.val t.isLt).2.2.2.2.2.2.2 (ix2 0 1) = k0_pay1 (FloatOps.ofBits (F := Ideal) FTy.f32 0#32) (k0_pay31 (k0_pay23 (k0_pay19 (iblk m c 0 t)) (k0_pay20 (iblk m c 2 t)))) := by
  rw [outsAt0_A m c t h0 (by omega)]
  frame_out
  rw [pair_second]

/-- The second hand's count of rows after a later block. -/
theorem rightCount_next (t : Fin cfg0.N) (h0 : ¬t.val % 128 = 0) :
    (outsAt0 m c t.val t.isLt).2.2.2.2.2.2.2 (ix2 0 1) = k0_pay1 ((outsAt0 m c (t.val - 1) (Nat.lt_of_le_of_lt (Nat.sub_le _ _) t.isLt)).2.2.2.2.2.2.2 (ix2 0 1)) (k0_pay31 (k0_pay23 (k0_pay19 (iblk m c 0 t)) (k0_pay20 (iblk m c 2 t)))) := by
  by_cases h1 : t.val % 128 = 127
  · rw [outsAt0_C m c t h0 h1]
    frame_out
    rw [pair_second]
    rw [read_unread_whole, ld_second]
  · rw [outsAt0_B m c t h0 h1]
    frame_out
    rw [pair_second]
    rw [read_unread_whole, ld_second]

/-- What the last block writes to the result, from the running arrays it has brought up to date. -/
theorem result_last (t : Fin cfg0.N) (h1 : t.val % 128 = 127) :
    (outsAt0 m c t.val t.isLt).1 = k0_pay2 (k0_pay3 (outsAt0 m c t.val t.isLt).2.1) (k0_pay4 (outsAt0 m c t.val t.isLt).2.1 (outsAt0 m c t.val t.isLt).2.2.1) ((outsAt0 m c t.val t.isLt).2.2.2.2.2.2.2 (ix2 0 1))
      (k0_pay5 ((outsAt0 m c t.val t.isLt).2.2.2.2.2.2.2 (ix2 0 0)) (outsAt0 m c t.val t.isLt).2.2.2.1) (k0_pay6 ((outsAt0 m c t.val t.isLt).2.2.2.2.2.2.2 (ix2 0 0)) (outsAt0 m c t.val t.isLt).2.2.2.1 (outsAt0 m c t.val t.isLt).2.2.2.2.1) (k0_pay7 ((outsAt0 m c t.val t.isLt).2.2.2.2.2.2.2 (ix2 0 1)) (outsAt0 m c t.val t.isLt).2.2.2.2.2.1)
      (outsAt0 m c t.val t.isLt).2.2.2.2.2.2.1 (k0_pay8 ((outsAt0 m c t.val t.isLt).2.2.2.2.2.2.2 (ix2 0 1)) (outsAt0 m c t.val t.isLt).2.2.2.2.2.1) (iblk m c 3 t) (iblk m c 4 t) (iblk m c 5 t) := by
  have h0 : ¬t.val % 128 = 0 := by omega
  rw [sums_next m c t h0, squares_next m c t h0, leftSums_next m c t h0, leftSquares_next m c t h0, rightSums_next m c t h0, rightSquares_next m c t h0, leftCount_next m c t h0, rightCount_next m c t h0]
  rw [outsAt0_C m c t h0 h1]
  frame_out
  simp only [read_unread_whole]
  rw [ld_first, ld_second]

end Cert.Carry

end
-- ==== Proof.Stats.lean ====
module

public import Idealize.ShloMosaic.Lib.Pointwise

/-
  The mathematics of the claim, free of any program: the mean and the two forms of the sample standard deviation of a
  column of 32768 extended reals. The kernel takes the deviation from the column's sum and sum of squares; the
  reference takes it from the centred squares. On a column of real numbers the two agree (`devMoment_eq_devCentred`).
-/

@[expose] public noncomputable section

namespace Cert.Stats

open Idealize.ShloMosaic

/-- The number of rows, 32768, as the value of its float word. -/
theorem ofBits_rows : Ideal.ofBits .f32 0x47000000#32 = ((32768 : ℝ) : EReal) := by
  simp [Ideal.ofBits, Ideal.ieee]
  rw [← EReal.coe_mul]
  norm_num

/-- The mean of a column: its sum over the number of rows. -/
def mean (v : Fin 32768 → EReal) : EReal := Ideal.div (∑ i, v i) ((32768 : ℝ) : EReal)

/-- The deviation as the kernel takes it: from the sum of squares, less the number of rows times the mean squared, cut
    off below at zero. -/
def devMoment (v : Fin 32768 → EReal) : EReal :=
  Ideal.sqrt (max (Ideal.div ((∑ i, v i * v i) - ((32768 : ℝ) : EReal) * mean v * mean v) (((32768 : ℝ) : EReal) - 1)) 0)

/-- The mean of a column whose sum is `s`. -/
def meanOf (s : EReal) : EReal := Ideal.div s ((32768 : ℝ) : EReal)

/-- The kernel's deviation of a column whose sum is `s` and whose sum of squares is `q`. -/
def devOf (s q : EReal) : EReal :=
  Ideal.sqrt (max (Ideal.div (q - ((32768 : ℝ) : EReal) * meanOf s * meanOf s) (((32768 : ℝ) : EReal) - 1)) 0)

/-- `meanOf` a column's sum is its mean. -/
theorem meanOf_sum (v : Fin 32768 → EReal) : meanOf (∑ i, v i) = mean v := rfl

/-- `devOf` a column's sum and sum of squares is its deviation as the kernel takes it. -/
theorem devOf_sum (v : Fin 32768 → EReal) : devOf (∑ i, v i) (∑ i, v i * v i) = devMoment v := rfl

/-- The deviation as the reference takes it: from the squares of the entries less the mean. -/
def devCentred (v : Fin 32768 → EReal) : EReal :=
  Ideal.sqrt (Ideal.div (∑ i, (v i - mean v) * (v i - mean v)) (((32768 : ℝ) : EReal) - 1))

/-- A finite sum of real numbers is the same sum taken in the extended reals. -/
theorem sum_coe {ι : Type} (s : Finset ι) (r : ι → ℝ) : (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-- The number of rows less one is 32767. -/
theorem rows_sub_one : ((32768 : ℝ) : EReal) - 1 = ((32767 : ℝ) : EReal) := by
  rw [← EReal.coe_one, ← EReal.coe_sub]; norm_num

/-- The mean of a column of real numbers is the real mean. -/
theorem mean_coe (r : Fin 32768 → ℝ) : mean (fun i => (r i : EReal)) = (((∑ i, r i) * (1 / 32768) : ℝ) : EReal) := by
  unfold mean
  rw [sum_coe, Ideal.div_coe (by norm_num), ← EReal.coe_mul]

/-- Over the reals: the sum of the centred squares is the sum of squares less the number of rows times the mean squared. -/
theorem centred_eq (r : Fin 32768 → ℝ) (m : ℝ) (hm : m = (∑ i, r i) * (1 / 32768)) :
    ∑ i, (r i - m) * (r i - m) = (∑ i, r i * r i) - 32768 * m * m := by
  have h : ∀ i, (r i - m) * (r i - m) = r i * r i - 2 * m * r i + m * m := fun i => by ring
  have hs : ∑ i, r i = 32768 * m := by rw [hm]; ring
  simp only [h, Finset.sum_add_distrib, Finset.sum_sub_distrib, ← Finset.mul_sum, Finset.sum_const, Finset.card_univ,
    Fintype.card_fin, nsmul_eq_mul, hs]
  norm_num
  ring

/-- On a column of real numbers the kernel's deviation is the reference's. -/
theorem devMoment_eq_devCentred (v : Fin 32768 → EReal) (r : Fin 32768 → ℝ) (hv : ∀ i, v i = (r i : EReal)) :
    devMoment v = devCentred v := by
  obtain rfl : v = fun i => (r i : EReal) := funext hv
  unfold devMoment devCentred
  rw [mean_coe, rows_sub_one]
  generalize hm : (∑ i, r i) * (1 / 32768) = m
  simp only [← EReal.coe_mul, ← EReal.coe_sub, sum_coe]
  rw [centred_eq r m hm.symm, Ideal.div_coe (by norm_num), ← EReal.coe_mul]
  congr 1
  refine max_eq_left ?_
  rw [← EReal.coe_zero, EReal.coe_le_coe_iff, ← centred_eq r m hm.symm]
  exact mul_nonneg (Finset.sum_nonneg fun i _ => mul_self_nonneg _) (by norm_num)

/-- An extended real whose absolute value is below infinity is a real number. -/
theorem exists_real_of_abs_lt_top (x : EReal) (h : x ≠ ⊤) (h' : x ≠ ⊥) : ∃ r : ℝ, x = (r : EReal) :=
  ⟨x.toReal, (EReal.coe_toReal h h').symm⟩

end Cert.Stats

end
-- ==== Proof.Finish.lean ====
module

public import proofs.«01_k».proof.Proof.Gen.KernelIdeal.Skeleton
public import proofs.«01_k».proof.Proof.Stats
public import Idealize.ShloMosaic.Lib.IdealHost

/-
  What the kernel computes after its last block: the means and deviations from the sums it carried, and the row of 472
  entries gathered from them by three products with tables of zeros and ones.
-/

set_option maxRecDepth 16384

@[expose] public noncomputable section

namespace Cert.Finish

open Cert.KernelIdeal Cert.KernelIdeal.Gen Idealize.ShloMosaic

theorem pay3_apply (s : Vec Ideal S1x1629 .f32) (k : Fin 1629) :
    k0_pay3 s (ix2 0 k) = Stats.meanOf (s (ix2 0 k)) := by
  unfold k0_pay3 Stats.meanOf
  pointwise
  rw [Stats.ofBits_rows]

theorem pay4_apply (s q : Vec Ideal S1x1629 .f32) (k : Fin 1629) :
    k0_pay4 s q (ix2 0 k) = Stats.devOf (s (ix2 0 k)) (q (ix2 0 k)) := by
  have h := pay3_apply s k
  unfold k0_pay4 Stats.devOf
  generalize k0_pay3 s = w at h ⊢
  rw [← h]
  pointwise
  rw [Stats.ofBits_rows]

theorem pay5_apply (s : Vec Ideal S1x64 .f32) (k : Fin 64) :
    k0_pay5 (F := Ideal) ((32768 : ℝ) : EReal) s (ix2 0 k) = Stats.meanOf (s (ix2 0 k)) := by
  unfold k0_pay5 Stats.meanOf
  pointwise

theorem pay6_apply (s q : Vec Ideal S1x64 .f32) (k : Fin 64) :
    k0_pay6 (F := Ideal) ((32768 : ℝ) : EReal) s q (ix2 0 k) = Stats.devOf (s (ix2 0 k)) (q (ix2 0 k)) := by
  have h := pay5_apply s k
  unfold k0_pay6 Stats.devOf
  generalize k0_pay5 _ s = w at h ⊢
  rw [← h]
  pointwise

theorem pay7_apply (s : Vec Ideal S1x64 .f32) (k : Fin 64) :
    k0_pay7 (F := Ideal) ((32768 : ℝ) : EReal) s (ix2 0 k) = Stats.meanOf (s (ix2 0 k)) := by
  unfold k0_pay7 Stats.meanOf
  pointwise

theorem pay8_apply (s : Vec Ideal S1x64 .f32) (k : Fin 64) :
    k0_pay8 (F := Ideal) ((32768 : ℝ) : EReal) s (ix2 0 k) = ((32768 : ℝ) : EReal) * Stats.meanOf (s (ix2 0 k)) * Stats.meanOf (s (ix2 0 k)) := by
  have h := pay7_apply s k
  unfold k0_pay8
  generalize k0_pay7 _ s = w at h ⊢
  rw [← h]
  pointwise

theorem pay2_apply_mean (v117 v128 : FVec Ideal S1x1629 .f32) (n : EReal) (v133 v144 v147 : FVec Ideal S1x64 .f32)
    (q v151 : FVec Ideal S1x64 .f32) (e : FVec Ideal S1629x236 .f32) (el er : FVec Ideal S64x236 .f32) (j : Fin 472) (hj : j.val < 236) :
    k0_pay2 (F := Ideal) v117 v128 n v133 v144 v147 q v151 e el er (ix2 0 j)
      = (∑ k : Fin 1629, v117 (ix2 0 k) * e (ix2 k ⟨j.val, hj⟩)) + (∑ k : Fin 64, v133 (ix2 0 k) * el (ix2 k ⟨j.val, hj⟩))
        + ∑ k : Fin 64, v147 (ix2 0 k) * er (ix2 k ⟨j.val, hj⟩) := by
  unfold k0_pay2
  pointwise
  rw [if_neg (fun h => h rfl), dif_pos hj]

theorem pay2_apply_dev (v117 v128 : FVec Ideal S1x1629 .f32) (n : EReal) (v133 v144 v147 : FVec Ideal S1x64 .f32)
    (q v151 : FVec Ideal S1x64 .f32) (e : FVec Ideal S1629x236 .f32) (el er : FVec Ideal S64x236 .f32) (j : Fin 472) (hj : ¬j.val < 236) :
    k0_pay2 (F := Ideal) v117 v128 n v133 v144 v147 q v151 e el er (ix2 0 j)
      = (∑ k : Fin 1629, v128 (ix2 0 k) * e (ix2 k ⟨j.val - 236, by omega⟩)) + (∑ k : Fin 64, v144 (ix2 0 k) * el (ix2 k ⟨j.val - 236, by omega⟩))
        + ∑ k : Fin 64, Ideal.sqrt (max (Ideal.div (q (ix2 0 k) - v151 (ix2 0 k)) (n - 1)) 0) * er (ix2 k ⟨j.val - 236, by omega⟩) := by
  unfold k0_pay2
  pointwise
  rw [if_neg (fun h => h rfl), dif_neg hj]

end Cert.Finish

end
-- ==== Proof.Blocks.lean ====
module

public import proofs.«01_k».proof.Proof.Gen.KernelIdeal.Value
public import Idealize.ShloMosaic.Lib.Pipeline.ValueKit

/-
  What each block of the kernel's inputs holds: block `t` of the flattened landmark array is its rows `256 t` to
  `256 t + 255`; the three tables are one block each.
-/

set_option maxRecDepth 16384

@[expose] public noncomputable section

namespace Cert.Blocks

open Cert.KernelIdeal Cert.KernelIdeal.Gen Idealize.ShloMosaic
open Idealize.ShloMosaic.TcCoe Idealize.SL.Sem

variable (m : (ℓ : Loc nD τ sig) → Buf (Elt Ideal) ℓ) (c : Dev nD)

theorem index_x : ∀ t : Fin cfg0.N, win0_0.index t = ![t.val, 0] := by decide +kernel
theorem index_table : ∀ t : Fin cfg0.N, win0_3.index t = ![0, 0] := by decide +kernel
theorem index_left : ∀ t : Fin cfg0.N, win0_4.index t = ![0, 0] := by decide +kernel
theorem index_right : ∀ t : Fin cfg0.N, win0_5.index t = ![0, 0] := by decide +kernel

/-- Flat column `k` of the landmark array at frame `i`: landmark `k / 3`, coordinate `k % 3`. -/
def flat (x : (⟨3, ![32768, 543, 3]⟩ : Shape).Idx → EReal) (k : Fin 1629) : Fin 32768 → EReal :=
  fun i => x (ix3 i ⟨k.val / 3, by omega⟩ ⟨k.val % 3, by omega⟩)

/-- A row of a block is a row of the array. -/
theorem row_lt (t : Fin cfg0.N) (r : Fin 256) : t.val * 256 + r.val < 32768 := by
  have h := t.isLt
  have hN : cfg0.N = 128 := N_0
  omega

/-- Block `t` of the flattened array: its rows from `256 t` on. -/
theorem x_apply (t : Fin cfg0.N) (r : Fin 256) (k : Fin 1629) :
    iblk m c 0 t (ix2 r k) = flat (m ((c.tc : Thread nD τ).loc main_arg0)) k ⟨t.val * 256 + r.val, row_lt t r⟩ := by
  unfold flat
  blk_ext! [iblk, V, index_x t]

theorem table_whole (t : Fin cfg0.N) : iblk m c 3 t = V m c main_v7 := by
  blk_ext! [iblk, index_table t]

theorem left_whole (t : Fin cfg0.N) : iblk m c 4 t = V m c main_cst_1 := by
  blk_ext! [iblk, index_left t]

theorem right_whole (t : Fin cfg0.N) : iblk m c 5 t = V m c main_cst_2 := by
  blk_ext! [iblk, index_right t]

/-- The main table: one where the row is the column's flat column, zero elsewhere. -/
theorem table_apply (r : Fin 1629) (k : Fin 236) : V m c main_v7 (ix2 r k)
    = FloatOps.uitofp (F := Ideal) FTy.f32 (IntOp.cmpi CmpIPredicate.eq (BitVec.ofNat 32 r.val) (lit2 (S236.rowMajor (ix1 k)))) := by
  entry_read; pointwise

theorem left_apply (r : Fin 64) (k : Fin 236) :
    V m c main_cst_1 (ix2 r k) = Ideal.ofBits .f32 (lit3 (S64x236.rowMajor (ix2 r k))) := by
  entry_read; pointwise

theorem right_apply (r : Fin 64) (k : Fin 236) :
    V m c main_cst_2 (ix2 r k) = Ideal.ofBits .f32 (lit4 (S64x236.rowMajor (ix2 r k))) := by
  entry_read; pointwise

end Cert.Blocks

end
-- ==== Proof.Columns.lean ====
module

public import proofs.«01_k».proof.Proof.Stats

/-
  Which columns of the landmark array the result describes, and the result both programs are shown to hold. The array is
  `x[32768, 543, 3]`: frames, landmarks, coordinates. The result has 472 entries: the means of 236 columns, then their
  sample standard deviations. Column `k` is landmark `land k`, coordinate `k % 2`: 43 lip landmarks from a table, 21 of
  one hand, 33 of the pose, 21 of the other hand, two coordinates each.
-/

@[expose] public noncomputable section

namespace Cert.Columns

open Idealize.ShloMosaic

/-- The lip landmarks, in the order in which the result lists them. -/
def lips : Fin 43 → Fin 543 :=
  ![61, 185, 40, 39, 37, 0, 267, 269, 270, 409, 291, 146, 91, 181, 84, 17, 314, 405, 321, 375, 291, 78, 191, 80,
    81, 82, 13, 312, 311, 310, 415, 308, 78, 95, 88, 178, 87, 14, 317, 402, 318, 324, 308]

/-- The landmark of column `k`. -/
def land (k : Fin 236) : Fin 543 :=
  if h : k.val < 86 then lips ⟨k.val / 2, by omega⟩
  else if h : k.val < 128 then ⟨468 + (k.val - 86) / 2, by omega⟩
  else if h : k.val < 194 then ⟨489 + (k.val - 128) / 2, by omega⟩
  else ⟨522 + (k.val - 194) / 2, by omega⟩

/-- The coordinate of column `k`: the first or the second. -/
def coord (k : Fin 236) : Fin 3 := ⟨k.val % 2, by omega⟩

/-- Column `k` of the array: its entries over the frames. -/
def col (x : (⟨3, ![32768, 543, 3]⟩ : Shape).Idx → EReal) (k : Fin 236) : Fin 32768 → EReal :=
  fun i => x (ix3 i (land k) (coord k))

/-- The result at entry `j`, for a given way `dev` of taking a deviation: the mean of column `j`, and past the 236
    columns the deviation of column `j - 236`. -/
def entry (dev : (Fin 32768 → EReal) → EReal) (x : (⟨3, ![32768, 543, 3]⟩ : Shape).Idx → EReal) (j : Fin 472) : EReal :=
  if h : j.val < 236 then Stats.mean (col x ⟨j.val, h⟩) else dev (col x ⟨j.val - 236, by omega⟩)

/-- Where the coordinates that are read are real numbers in every frame, the two ways of taking the deviation give the
    same result. -/
theorem entry_congr (x : (⟨3, ![32768, 543, 3]⟩ : Shape).Idx → EReal)
    (hx : ∀ i k, ∃ r : ℝ, x (ix3 i (land k) (coord k)) = (r : EReal)) (j : Fin 472) :
    entry Stats.devMoment x j = entry Stats.devCentred x j := by
  unfold entry
  split
  · rfl
  · have h : ∀ i, ∃ r : ℝ, col x ⟨j.val - 236, by omega⟩ i = (r : EReal) := fun i =>
      hx i _
    exact Stats.devMoment_eq_devCentred _ (fun i => (h i).choose) fun i => (h i).choose_spec

end Cert.Columns

end
-- ==== Proof.Block.lean ====
module

public import proofs.«01_k».proof.Proof.Gen.KernelIdeal.Skeleton
public import proofs.«01_k».proof.Proof.Stats
public import Idealize.ShloMosaic.Lib.IdealHost

/-
  What one grid point computes from its block of 256 rows: each stored value read at an index. The hands' rows are
  weighted by whether their masked entries are numbers, which over the extended reals they are, so no row drops out.
-/

set_option maxRecDepth 16384

@[expose] public noncomputable section

namespace Cert.Block

open Cert.KernelIdeal Cert.KernelIdeal.Gen Idealize.ShloMosaic

/-! ## The accumulators' first contents -/

theorem pay9_apply (k : Fin 1629) : k0_pay9 (F := Ideal) (ix2 0 k) = 0 := by unfold k0_pay9; pointwise
theorem pay10_apply (k : Fin 1629) : k0_pay10 (F := Ideal) (ix2 0 k) = 0 := by unfold k0_pay10; pointwise
theorem pay11_apply (k : Fin 64) : k0_pay11 (F := Ideal) (ix2 0 k) = 0 := by unfold k0_pay11; pointwise
theorem pay12_apply (k : Fin 64) : k0_pay12 (F := Ideal) (ix2 0 k) = 0 := by unfold k0_pay12; pointwise
theorem pay13_apply (k : Fin 64) : k0_pay13 (F := Ideal) (ix2 0 k) = 0 := by unfold k0_pay13; pointwise
theorem pay14_apply (k : Fin 64) : k0_pay14 (F := Ideal) (ix2 0 k) = 0 := by unfold k0_pay14; pointwise

/-! ## The sums over all columns -/

theorem pay15_apply (x : Vec Ideal S256x1629 .f32) (r : Fin 256) (k : Fin 1629) : k0_pay15 x (ix2 r k) = x (ix2 r k) := by
  unfold k0_pay15; pointwise

/-- The running sums: what they held and the block's column sums. -/
theorem pay16_apply (x : Vec Ideal S256x1629 .f32) (a : Vec Ideal S1x1629 .f32) (k : Fin 1629) :
    k0_pay16 x a (ix2 0 k) = a (ix2 0 k) + ∑ r : Fin 256, x (ix2 r k) := by
  unfold k0_pay16 k0_pay15; pointwise

/-- The running sums of squares: what they held and the block's column sums of squares. -/
theorem pay17_apply (x : Vec Ideal S256x1629 .f32) (a : Vec Ideal S1x1629 .f32) (k : Fin 1629) :
    k0_pay17 x a (ix2 0 k) = a (ix2 0 k) + ∑ r : Fin 256, x (ix2 r k) * x (ix2 r k) := by
  unfold k0_pay17 k0_pay15; pointwise

/-! ## The hands' windows and the weights of their rows -/

/-- The first hand's window starts at column 1404. -/
theorem pay18_apply (x : Vec Ideal S256x1629 .f32) (r : Fin 256) (k : Fin 64) :
    k0_pay18 x (ix2 r k) = x (ix2 r ⟨1404 + k.val, by omega⟩) := by
  unfold k0_pay18 k0_pay15; pointwise

/-- The second hand's window starts at column 1565. -/
theorem pay19_apply (x : Vec Ideal S256x1629 .f32) (r : Fin 256) (k : Fin 64) :
    k0_pay19 x (ix2 r k) = x (ix2 r ⟨1565 + k.val, by omega⟩) := by
  unfold k0_pay19 k0_pay15; pointwise

/-- The word of minus infinity is below zero. -/
theorem ofBits_neg_inf : ¬0 < Ideal.ofBits .f32 0xFF800000#32 := by
  simp [Ideal.ofBits, Ideal.ieee]

/-- A running maximum from minus infinity of entries that are all zero is not positive. -/
theorem not_pos_fold {n : Nat} (f : Fin n → EReal) (hf : ∀ k, f k = 0) :
    ¬0 < Finset.fold max (Ideal.ofBits .f32 0xFF800000#32) f Finset.univ := by
  rw [Finset.lt_fold_max]
  rintro (h | ⟨k, -, h⟩)
  · exact ofBits_neg_inf h
  · rw [hf k] at h; exact lt_irrefl _ h

/-- The mark of an entry: one where it is no number and the mask is positive. Every extended real is a number. -/
theorem mark_eq_zero (a m : EReal) :
    (Scalar.select (IntOp.andi (BitVec.ofBool (decide (a ≠ a))) (BitVec.ofBool (decide (0 < m)))) 1 0 : EReal) = 0 := by
  by_cases h : 0 < m <;> simp [h, Scalar.select, IntOp.andi]

/-- No entry of the first hand's window is marked as no number. -/
theorem pay21_apply (x : Vec Ideal S256x1629 .f32) (v : Vec Ideal S1x64 .f32) (r : Fin 256) (k : Fin 64) :
    k0_pay21 x v (ix2 r k) = 0 := by
  unfold k0_pay21
  generalize k0_pay18 x = y
  pointwise
  exact mark_eq_zero _ _

/-- A row none of whose entries is marked has weight one. -/
theorem pay22_apply (v : FVec Ideal S256x64 .f32) (hv : ∀ r k, v (ix2 r k) = 0) (r : Fin 256) : k0_pay22 v (ix2 r 0) = 1 := by
  unfold k0_pay22
  pointwise
  exact if_neg (not_pos_fold _ fun k => hv r k)

/-- Every row of the second hand's window has weight one. -/
theorem pay23_apply (y : FVec Ideal S256x64 .f32) (v : FVec Ideal S1x64 .f32) (r : Fin 256) : k0_pay23 y v (ix2 r 0) = 1 := by
  unfold k0_pay23
  pointwise
  exact if_neg (not_pos_fold _ fun k => mark_eq_zero _ _)

/-- The first hand's window with the rows of weight zero cleared is the window. -/
theorem pay24_apply (y v : FVec Ideal S256x64 .f32) (hv : ∀ r k, v (ix2 r k) = 0) (r : Fin 256) (k : Fin 64) :
    k0_pay24 y v (ix2 r k) = y (ix2 r k) := by
  have h := fun r => pay22_apply v hv r
  unfold k0_pay24
  generalize k0_pay22 v = w at h ⊢
  pointwise
  simp only [h, zero_lt_one, if_true]

/-- The second hand's window with the rows of weight zero cleared is the window. -/
theorem pay25_apply (y : FVec Ideal S256x64 .f32) (v : FVec Ideal S1x64 .f32) (r : Fin 256) (k : Fin 64) :
    k0_pay25 y v (ix2 r k) = y (ix2 r k) := by
  have h := fun r => pay23_apply y v r
  unfold k0_pay25
  generalize k0_pay23 y v = w at h ⊢
  pointwise
  simp only [h, zero_lt_one, if_true]

/-! ## The hands' sums -/

theorem pay26_apply (y v : FVec Ideal S256x64 .f32) (hv : ∀ r k, v (ix2 r k) = 0) (a : Vec Ideal S1x64 .f32) (k : Fin 64) :
    k0_pay26 y v a (ix2 0 k) = a (ix2 0 k) + ∑ r : Fin 256, y (ix2 r k) := by
  have h := fun r => pay24_apply y v hv r k
  unfold k0_pay26
  generalize k0_pay24 y v = w at h ⊢
  simp only [← h]
  pointwise

theorem pay27_apply (y : FVec Ideal S256x64 .f32) (a : Vec Ideal S1x64 .f32) (k : Fin 64) :
    k0_pay27 y a (ix2 0 k) = a (ix2 0 k) + ∑ r : Fin 256, y (ix2 r k) * y (ix2 r k) := by
  unfold k0_pay27; pointwise

theorem pay28_apply (y : FVec Ideal S256x64 .f32) (a : Vec Ideal S1x64 .f32) (k : Fin 64) :
    k0_pay28 y a (ix2 0 k) = a (ix2 0 k) + ∑ r : Fin 256, y (ix2 r k) := by
  unfold k0_pay28; pointwise

theorem pay29_apply (y : FVec Ideal S256x64 .f32) (a : Vec Ideal S1x64 .f32) (k : Fin 64) :
    k0_pay29 y a (ix2 0 k) = a (ix2 0 k) + ∑ r : Fin 256, y (ix2 r k) * y (ix2 r k) := by
  unfold k0_pay29; pointwise

/-! ## The counts of the rows -/

/-- The number of rows in a block, 256, as an extended real. -/
theorem sum_rows : (∑ _r : Fin 256, (1 : EReal)) = ((256 : ℝ) : EReal) := by
  rw [← EReal.coe_one, Stats.sum_coe]; simp

theorem pay30_apply (w : FVec Ideal S256x1 .f32) (hw : ∀ r, w (ix2 r 0) = 1) (a : EReal) :
    k0_pay30 (F := Ideal) w a = a + ((256 : ℝ) : EReal) := by
  unfold k0_pay30
  pointwise
  simp only [hw, Finset.univ_unique, Finset.sum_singleton, sum_rows]

theorem pay1_apply (w : FVec Ideal S256x1 .f32) (hw : ∀ r, w (ix2 r 0) = 1) (a : EReal) :
    k0_pay1 (F := Ideal) a (k0_pay31 w) = a + ((256 : ℝ) : EReal) := by
  unfold k0_pay1 k0_pay31
  pointwise
  simp only [hw, Finset.univ_unique, Finset.sum_singleton, sum_rows]

end Cert.Block

end
-- ==== Proof.Totals.lean ====
module

public import proofs.«01_k».proof.Proof.Carry
public import proofs.«01_k».proof.Proof.Block
public import proofs.«01_k».proof.Proof.Blocks

/-
  What the running arrays hold after the last block: the sums and the sums of squares of the columns over all 32768
  frames, and for each hand the number of frames.
-/

set_option maxRecDepth 16384

@[expose] public noncomputable section

namespace Cert.Totals

open Cert.KernelIdeal Cert.KernelIdeal.Gen Idealize.ShloMosaic
open Idealize.ShloMosaic.TcCoe Idealize.SL.Sem

variable (m : (ℓ : Loc nD τ sig) → Buf (Elt Ideal) ℓ) (c : Dev nD)

/-- The last of the 128 blocks. -/
def lastPoint : Fin cfg0.N := ⟨127, lt_of_lt_of_eq (by decide) N_0.symm⟩

/-- A quantity that starts at the first block's part and grows by each later block's part, every part a sum over the
    block's 256 rows, ends as the sum over all 32768 rows. -/
theorem total {ι : Type} (f : (n : ℕ) → n < cfg0.N → ι → EReal) (v : ι → Fin 32768 → EReal)
    (h0 : ∀ t : Fin cfg0.N, t.val % 128 = 0 → ∀ i, f t.val t.isLt i = 0 + ∑ r : Fin 256, v i ⟨t.val * 256 + r.val, Blocks.row_lt t r⟩)
    (hs : ∀ t : Fin cfg0.N, ¬t.val % 128 = 0 → ∀ i, f t.val t.isLt i
      = f (t.val - 1) (Nat.lt_of_le_of_lt (Nat.sub_le _ _) t.isLt) i + ∑ r : Fin 256, v i ⟨t.val * 256 + r.val, Blocks.row_lt t r⟩) (i : ι) :
    f lastPoint.val lastPoint.isLt i = ∑ j : Fin 32768, v i j := by
  refine (Pipeline.eq_sum_fin_of_reset_step_apply_last f 128 (fun _ => 0)
    (fun t i => ∑ r : Fin 256, v i ⟨t.val * 256 + r.val, Blocks.row_lt t r⟩) h0 hs (le_of_eq N_0) lastPoint N_0.symm i).trans ?_
  refine (zero_add _).trans ?_
  exact Fin.sum_mul_add_congr (fun s k hl => rfl) (by rw [show cfg0.N = 128 from N_0])

/-- The landmark array. -/
abbrev arr : (⟨3, ![32768, 543, 3]⟩ : Shape).Idx → EReal := m ((c.tc : Thread nD τ).loc main_arg0)

/-- Flat column `1404 + k`: column `k` of the first hand's window. -/
def leftCol (x : (⟨3, ![32768, 543, 3]⟩ : Shape).Idx → EReal) (k : Fin 64) : Fin 32768 → EReal :=
  Blocks.flat x ⟨1404 + k.val, by omega⟩

/-- Flat column `1565 + k`: column `k` of the second hand's window. -/
def rightCol (x : (⟨3, ![32768, 543, 3]⟩ : Shape).Idx → EReal) (k : Fin 64) : Fin 32768 → EReal :=
  Blocks.flat x ⟨1565 + k.val, by omega⟩

/-- The first hand's window in block `t`. -/
theorem left_window (t : Fin cfg0.N) (r : Fin 256) (k : Fin 64) :
    k0_pay18 (F := Ideal) (iblk m c 0 t) (ix2 r k) = leftCol (arr m c) k ⟨t.val * 256 + r.val, Blocks.row_lt t r⟩ := by
  rw [Block.pay18_apply]; exact Blocks.x_apply m c t r _

/-- The first hand's window in block `t` with rows cleared by weight: no row is. -/
theorem left_cleared (t : Fin cfg0.N) (r : Fin 256) (k : Fin 64) :
    k0_pay24 (F := Ideal) (k0_pay18 (iblk m c 0 t)) (k0_pay21 (iblk m c 0 t) (iblk m c 1 t)) (ix2 r k)
      = leftCol (arr m c) k ⟨t.val * 256 + r.val, Blocks.row_lt t r⟩ := by
  rw [Block.pay24_apply _ _ (Block.pay21_apply _ _)]; exact left_window m c t r k

/-- The second hand's window in block `t` with rows cleared by weight: no row is. -/
theorem right_cleared (t : Fin cfg0.N) (r : Fin 256) (k : Fin 64) :
    k0_pay25 (F := Ideal) (k0_pay19 (iblk m c 0 t)) (k0_pay20 (iblk m c 2 t)) (ix2 r k)
      = rightCol (arr m c) k ⟨t.val * 256 + r.val, Blocks.row_lt t r⟩ := by
  rw [Block.pay25_apply, Block.pay19_apply]; exact Blocks.x_apply m c t r _

/-- After the last block: the sums of all columns. -/
theorem sums_total (k : Fin 1629) : (outsAt0 m c lastPoint.val lastPoint.isLt).2.1 (ix2 0 k) = ∑ j : Fin 32768, Blocks.flat (arr m c) k j := by
  refine total (fun n h k => (outsAt0 m c n h).2.1 (ix2 0 k)) (fun k j => Blocks.flat (arr m c) k j) (fun t h0 k => ?_) (fun t h0 k => ?_) k
  · refine (congrFun (Carry.sums_first m c t h0) _).trans ?_
    rw [Block.pay16_apply, Block.pay9_apply]
    simp only [Blocks.x_apply m c t]
  · refine (congrFun (Carry.sums_next m c t h0) _).trans ?_
    rw [Block.pay16_apply]
    simp only [Blocks.x_apply m c t]

/-- After the last block: the sums of squares of all columns. -/
theorem squares_total (k : Fin 1629) : (outsAt0 m c lastPoint.val lastPoint.isLt).2.2.1 (ix2 0 k) = ∑ j : Fin 32768, Blocks.flat (arr m c) k j * Blocks.flat (arr m c) k j := by
  refine total (fun n h k => (outsAt0 m c n h).2.2.1 (ix2 0 k)) (fun k j => Blocks.flat (arr m c) k j * Blocks.flat (arr m c) k j) (fun t h0 k => ?_) (fun t h0 k => ?_) k
  · refine (congrFun (Carry.squares_first m c t h0) _).trans ?_
    rw [Block.pay17_apply, Block.pay10_apply]
    simp only [Blocks.x_apply m c t]
  · refine (congrFun (Carry.squares_next m c t h0) _).trans ?_
    rw [Block.pay17_apply]
    simp only [Blocks.x_apply m c t]

/-- After the last block: the first hand's sums. -/
theorem leftSums_total (k : Fin 64) : (outsAt0 m c lastPoint.val lastPoint.isLt).2.2.2.1 (ix2 0 k) = ∑ j : Fin 32768, leftCol (arr m c) k j := by
  refine total (fun n h k => (outsAt0 m c n h).2.2.2.1 (ix2 0 k)) (fun k j => leftCol (arr m c) k j) (fun t h0 k => ?_) (fun t h0 k => ?_) k
  · refine (congrFun (Carry.leftSums_first m c t h0) _).trans ?_
    rw [Block.pay26_apply _ _ (Block.pay21_apply _ _), Block.pay11_apply]
    simp only [left_window m c t]
  · refine (congrFun (Carry.leftSums_next m c t h0) _).trans ?_
    rw [Block.pay26_apply _ _ (Block.pay21_apply _ _)]
    simp only [left_window m c t]

/-- After the last block: the first hand's sums of squares. -/
theorem leftSquares_total (k : Fin 64) : (outsAt0 m c lastPoint.val lastPoint.isLt).2.2.2.2.1 (ix2 0 k) = ∑ j : Fin 32768, leftCol (arr m c) k j * leftCol (arr m c) k j := by
  refine total (fun n h k => (outsAt0 m c n h).2.2.2.2.1 (ix2 0 k)) (fun k j => leftCol (arr m c) k j * leftCol (arr m c) k j) (fun t h0 k => ?_) (fun t h0 k => ?_) k
  · refine (congrFun (Carry.leftSquares_first m c t h0) _).trans ?_
    rw [Block.pay27_apply, Block.pay12_apply]
    simp only [left_cleared m c t]
  · refine (congrFun (Carry.leftSquares_next m c t h0) _).trans ?_
    rw [Block.pay27_apply]
    simp only [left_cleared m c t]

/-- After the last block: the second hand's sums. -/
theorem rightSums_total (k : Fin 64) : (outsAt0 m c lastPoint.val lastPoint.isLt).2.2.2.2.2.1 (ix2 0 k) = ∑ j : Fin 32768, rightCol (arr m c) k j := by
  refine total (fun n h k => (outsAt0 m c n h).2.2.2.2.2.1 (ix2 0 k)) (fun k j => rightCol (arr m c) k j) (fun t h0 k => ?_) (fun t h0 k => ?_) k
  · refine (congrFun (Carry.rightSums_first m c t h0) _).trans ?_
    rw [Block.pay28_apply, Block.pay13_apply]
    simp only [right_cleared m c t]
  · refine (congrFun (Carry.rightSums_next m c t h0) _).trans ?_
    rw [Block.pay28_apply]
    simp only [right_cleared m c t]

/-- After the last block: the second hand's sums of squares. -/
theorem rightSquares_total (k : Fin 64) : (outsAt0 m c lastPoint.val lastPoint.isLt).2.2.2.2.2.2.1 (ix2 0 k) = ∑ j : Fin 32768, rightCol (arr m c) k j * rightCol (arr m c) k j := by
  refine total (fun n h k => (outsAt0 m c n h).2.2.2.2.2.2.1 (ix2 0 k)) (fun k j => rightCol (arr m c) k j * rightCol (arr m c) k j) (fun t h0 k => ?_) (fun t h0 k => ?_) k
  · refine (congrFun (Carry.rightSquares_first m c t h0) _).trans ?_
    rw [Block.pay29_apply, Block.pay14_apply]
    simp only [right_cleared m c t]
  · refine (congrFun (Carry.rightSquares_next m c t h0) _).trans ?_
    rw [Block.pay29_apply]
    simp only [right_cleared m c t]

/-! ## The counts -/

/-- The word zero is zero. -/
theorem ofBits_zero : Ideal.ofBits .f32 0x00000000#32 = 0 := by simp [Ideal.ofBits, Ideal.ieee]

/-- The number of rows, as a sum of ones. -/
theorem sum_ones : (∑ _j : Fin 32768, (1 : EReal)) = ((32768 : ℝ) : EReal) := by
  rw [← EReal.coe_one, Stats.sum_coe, Finset.sum_const, Finset.card_univ, Fintype.card_fin, nsmul_eq_mul, mul_one, Nat.cast_ofNat]

/-- After the last block: the first hand's count of rows is the number of frames. -/
theorem leftCount_total : (outsAt0 m c lastPoint.val lastPoint.isLt).2.2.2.2.2.2.2 (ix2 0 0) = ((32768 : ℝ) : EReal) := by
  refine (total (ι := Unit) (fun n h _ => (outsAt0 m c n h).2.2.2.2.2.2.2 (ix2 0 0)) (fun _ _ => 1) (fun t h0 _ => ?_) (fun t h0 _ => ?_) ()).trans sum_ones
  · refine (Carry.leftCount_first m c t h0).trans ?_
    rw [Block.sum_rows, ← ofBits_zero]
    exact Block.pay30_apply _ (fun r => Block.pay22_apply _ (Block.pay21_apply _ _) r) _
  · refine (Carry.leftCount_next m c t h0).trans ?_
    rw [Block.sum_rows]
    exact Block.pay30_apply _ (fun r => Block.pay22_apply _ (Block.pay21_apply _ _) r) _

/-- After the last block: the second hand's count of rows is the number of frames. -/
theorem rightCount_total : (outsAt0 m c lastPoint.val lastPoint.isLt).2.2.2.2.2.2.2 (ix2 0 1) = ((32768 : ℝ) : EReal) := by
  refine (total (ι := Unit) (fun n h _ => (outsAt0 m c n h).2.2.2.2.2.2.2 (ix2 0 1)) (fun _ _ => 1) (fun t h0 _ => ?_) (fun t h0 _ => ?_) ()).trans sum_ones
  · refine (Carry.rightCount_first m c t h0).trans ?_
    rw [Block.sum_rows, ← ofBits_zero]
    exact Block.pay1_apply _ (fun r => Block.pay23_apply _ _ r) _
  · refine (Carry.rightCount_next m c t h0).trans ?_
    rw [Block.sum_rows]
    exact Block.pay1_apply _ (fun r => Block.pay23_apply _ _ r) _

end Cert.Totals

end
-- ==== Proof.LeftTable.lean ====
module

public import proofs.«01_k».proof.Proof.Gen.KernelIdeal.Skeleton

/-
  The words of the first hand's table, read off the literal row by row: in column `k` the word of one stands in the row of
  the column's landmark and coordinate counted from the window's start, and every other word is zero.
-/

set_option maxRecDepth 16384

@[expose] public noncomputable section

namespace Cert.LeftTable

open Cert.KernelIdeal Idealize.ShloMosaic

/-- Row `n` of the table is as described. -/
abbrev RowOk (n : Nat) : Prop := ∀ k : Fin 236, lit3t (n * 236 + k.val)
    = if decide (86 ≤ k.val) && decide (k.val < 128) && decide (n = 3 * ((k.val - 86) / 2) + k.val % 2) then 0x3F800000#32 else 0x00000000#32

theorem rows_0 : ∀ s : Fin 8, RowOk (0 * 8 + s.val) := by decide +kernel
theorem rows_1 : ∀ s : Fin 8, RowOk (1 * 8 + s.val) := by decide +kernel
theorem rows_2 : ∀ s : Fin 8, RowOk (2 * 8 + s.val) := by decide +kernel
theorem rows_3 : ∀ s : Fin 8, RowOk (3 * 8 + s.val) := by decide +kernel
theorem rows_4 : ∀ s : Fin 8, RowOk (4 * 8 + s.val) := by decide +kernel
theorem rows_5 : ∀ s : Fin 8, RowOk (5 * 8 + s.val) := by decide +kernel
theorem rows_6 : ∀ s : Fin 8, RowOk (6 * 8 + s.val) := by decide +kernel
theorem rows_7 : ∀ s : Fin 8, RowOk (7 * 8 + s.val) := by decide +kernel

/-- Every row of the table is as described. -/
theorem row (n : Nat) (h : n < 64) : RowOk n := by
  obtain ⟨q, s, rfl⟩ : ∃ (q : Fin 8) (s : Fin 8), n = q.val * 8 + s.val :=
    ⟨⟨n / 8, by omega⟩, ⟨n % 8, by omega⟩, by show n = n / 8 * 8 + n % 8; omega⟩
  fin_cases q
  · exact rows_0 s
  · exact rows_1 s
  · exact rows_2 s
  · exact rows_3 s
  · exact rows_4 s
  · exact rows_5 s
  · exact rows_6 s
  · exact rows_7 s

end Cert.LeftTable

end
-- ==== Proof.RightTable.lean ====
module

public import proofs.«01_k».proof.Proof.Gen.KernelIdeal.Skeleton

/-
  The words of the second hand's table, read off the literal row by row: in column `k` the word of one stands in the row of
  the column's landmark and coordinate counted from the window's start, and every other word is zero.
-/

set_option maxRecDepth 16384

@[expose] public noncomputable section

namespace Cert.RightTable

open Cert.KernelIdeal Idealize.ShloMosaic

/-- Row `n` of the table is as described. -/
abbrev RowOk (n : Nat) : Prop := ∀ k : Fin 236, lit4t (n * 236 + k.val)
    = if decide (194 ≤ k.val) && decide (k.val < 236) && decide (n = 3 * ((k.val - 194) / 2) + k.val % 2 + 1) then 0x3F800000#32 else 0x00000000#32

theorem rows_0 : ∀ s : Fin 8, RowOk (0 * 8 + s.val) := by decide +kernel
theorem rows_1 : ∀ s : Fin 8, RowOk (1 * 8 + s.val) := by decide +kernel
theorem rows_2 : ∀ s : Fin 8, RowOk (2 * 8 + s.val) := by decide +kernel
theorem rows_3 : ∀ s : Fin 8, RowOk (3 * 8 + s.val) := by decide +kernel
theorem rows_4 : ∀ s : Fin 8, RowOk (4 * 8 + s.val) := by decide +kernel
theorem rows_5 : ∀ s : Fin 8, RowOk (5 * 8 + s.val) := by decide +kernel
theorem rows_6 : ∀ s : Fin 8, RowOk (6 * 8 + s.val) := by decide +kernel
theorem rows_7 : ∀ s : Fin 8, RowOk (7 * 8 + s.val) := by decide +kernel

/-- Every row of the table is as described. -/
theorem row (n : Nat) (h : n < 64) : RowOk n := by
  obtain ⟨q, s, rfl⟩ : ∃ (q : Fin 8) (s : Fin 8), n = q.val * 8 + s.val :=
    ⟨⟨n / 8, by omega⟩, ⟨n % 8, by omega⟩, by show n = n / 8 * 8 + n % 8; omega⟩
  fin_cases q
  · exact rows_0 s
  · exact rows_1 s
  · exact rows_2 s
  · exact rows_3 s
  · exact rows_4 s
  · exact rows_5 s
  · exact rows_6 s
  · exact rows_7 s

end Cert.RightTable

end
-- ==== Proof.OneHot.lean ====
module

public import proofs.«01_k».proof.Proof.Blocks
public import proofs.«01_k».proof.Proof.Columns
public import proofs.«01_k».proof.Proof.Totals
public import proofs.«01_k».proof.Proof.LeftTable
public import proofs.«01_k».proof.Proof.RightTable

/-
  The kernel's three tables of zeros and ones, and what a product with them picks. In column `k` of the main table the one
  stands in the row of the flat column `3 * land k + k % 2`, for the lips and the pose; the columns of the hands are zero
  there. In the two hands' tables it stands in the row of that flat column counted from the window's start, for that
  hand's columns, and the other columns are zero. So the three products together pick, for each of the 236 columns, the
  quantity of that column once (`gather`).
-/

set_option maxRecDepth 16384

@[expose] public noncomputable section

namespace Cert.OneHot

open Cert.KernelIdeal Cert.KernelIdeal.Gen Idealize.ShloMosaic
open Idealize.ShloMosaic.TcCoe Idealize.SL.Sem

variable (m : (ℓ : Loc nD τ sig) → Buf (Elt Ideal) ℓ) (c : Dev nD)

/-- The flat column of column `k` of the result. -/
def flatCol (k : Fin 236) : Fin 1629 := ⟨3 * (Columns.land k).val + k.val % 2, by omega⟩

/-- Column `k` is one of a hand's. -/
abbrev ofHand (k : Fin 236) : Prop := (86 ≤ k.val ∧ k.val < 128) ∨ 194 ≤ k.val

/-- The main table's word for column `k`: the flat column, and for the hands a word that no row has. -/
theorem table_word : ∀ k : Fin 236, lit2 k = if ofHand k then 0xFFFFFFFF#32 else BitVec.ofNat 32 (flatCol k).val := by
  decide +kernel

/-- The word of one is one. -/
theorem ofBits_one : Ideal.ofBits .f32 0x3F800000#32 = 1 := by
  simp [Ideal.ofBits, Ideal.ieee]
  rw [← EReal.coe_mul]
  norm_num

/-- The comparison of two words as a number: one where they are equal, zero where they are not. -/
theorem eq_word (a b : BitVec 32) : (FloatOps.uitofp (F := Ideal) FTy.f32 (IntOp.cmpi CmpIPredicate.eq a b) : EReal)
    = if a = b then 1 else 0 := by
  show (((IntOp.cmpi CmpIPredicate.eq a b).toNat : ℝ) : EReal) = _
  by_cases h : a = b <;> simp [h, IntOp.cmpi]

/-- The main table at a column of the lips or the pose. -/
theorem table_main (r : Fin 1629) (k : Fin 236) (hk : ¬ofHand k) :
    V m c main_v7 (ix2 r k) = if r = flatCol k then (1 : EReal) else 0 := by
  have e : S236.rowMajor (ix1 k) = k := Fin.ext (Shape.rowMajor_val_one _)
  rw [Blocks.table_apply, e, table_word, if_neg hk, eq_word]
  refine if_congr ?_ rfl rfl
  rw [Fin.ext_iff]
  have h1 := r.isLt
  have h2 := (flatCol k).isLt
  constructor
  · intro h
    have := congrArg BitVec.toNat h
    simp only [BitVec.toNat_ofNat] at this
    omega
  · intro h; rw [h]

/-- The main table at a column of a hand. -/
theorem table_hand (r : Fin 1629) (k : Fin 236) (hk : ofHand k) : V m c main_v7 (ix2 r k) = (0 : EReal) := by
  have e : S236.rowMajor (ix1 k) = k := Fin.ext (Shape.rowMajor_val_one _)
  rw [Blocks.table_apply, e, table_word, if_pos hk, eq_word, if_neg]
  intro h
  have h1 := r.isLt
  have := congrArg BitVec.toNat h
  simp only [BitVec.toNat_ofNat] at this
  omega

/-- The first hand's table. -/
theorem left_entry (r : Fin 64) (k : Fin 236) : V m c main_cst_1 (ix2 r k)
    = if 86 ≤ k.val ∧ k.val < 128 ∧ r.val = 3 * ((k.val - 86) / 2) + k.val % 2 then (1 : EReal) else 0 := by
  have e : (S64x236.rowMajor (ix2 r k)).val = r.val * 236 + k.val := Shape.rowMajor_val_two _
  rw [Blocks.left_apply]
  show Ideal.ofBits .f32 (lit3t (S64x236.rowMajor (ix2 r k)).val) = _
  rw [e, LeftTable.row r.val r.isLt k, apply_ite (Ideal.ofBits .f32), ofBits_one, Totals.ofBits_zero]
  refine if_congr ?_ rfl rfl
  simp only [Bool.and_eq_true, decide_eq_true_eq, and_assoc]

/-- The second hand's table. -/
theorem right_entry (r : Fin 64) (k : Fin 236) : V m c main_cst_2 (ix2 r k)
    = if 194 ≤ k.val ∧ k.val < 236 ∧ r.val = 3 * ((k.val - 194) / 2) + k.val % 2 + 1 then (1 : EReal) else 0 := by
  have e : (S64x236.rowMajor (ix2 r k)).val = r.val * 236 + k.val := Shape.rowMajor_val_two _
  rw [Blocks.right_apply]
  show Ideal.ofBits .f32 (lit4t (S64x236.rowMajor (ix2 r k)).val) = _
  rw [e, RightTable.row r.val r.isLt k, apply_ite (Ideal.ofBits .f32), ofBits_one, Totals.ofBits_zero]
  refine if_congr ?_ rfl rfl
  simp only [Bool.and_eq_true, decide_eq_true_eq, and_assoc]

/-- A sum of products with a column that is zero is zero, whatever the extended reals it multiplies. -/
theorem pick_none {n : Nat} (v e : Fin n → EReal) (he : ∀ k, e k = 0) : ∑ k, v k * e k = 0 :=
  Finset.sum_eq_zero fun k _ => by rw [he k, mul_zero]

/-- A sum of products with a column that is one at `k` and zero elsewhere is the factor at `k`. -/
theorem pick_one {n : Nat} (v e : Fin n → EReal) (k : Fin n) (h1 : e k = 1) (h0 : ∀ l, l ≠ k → e l = 0) :
    ∑ l, v l * e l = v k := by
  rw [Finset.sum_eq_single k (fun l _ hl => by rw [h0 l hl, mul_zero]) (fun h => absurd (Finset.mem_univ k) h), h1, mul_one]

/-- The landmark column `k` is the flat column `flatCol k`. -/
theorem flat_flatCol (x : (⟨3, ![32768, 543, 3]⟩ : Shape).Idx → EReal) (k : Fin 236) (f : Fin 1629) (hf : f.val = (flatCol k).val) :
    Blocks.flat x f = Columns.col x k := by
  have h : f.val = 3 * (Columns.land k).val + k.val % 2 := hf
  unfold Blocks.flat Columns.col
  funext i
  have h1 : (⟨f.val / 3, by omega⟩ : Fin 543) = Columns.land k := Fin.ext (by show f.val / 3 = _; omega)
  have h2 : (⟨f.val % 3, by omega⟩ : Fin 3) = Columns.coord k := Fin.ext (by show f.val % 3 = k.val % 2; omega)
  rw [h1, h2]

/-- The landmark of a column of the first hand. -/
theorem land_left (k : Fin 236) (h : 86 ≤ k.val) (h' : k.val < 128) : (Columns.land k).val = 468 + (k.val - 86) / 2 := by
  unfold Columns.land
  rw [dif_neg (by omega), dif_pos h']

/-- The landmark of a column of the second hand. -/
theorem land_right (k : Fin 236) (h : 194 ≤ k.val) : (Columns.land k).val = 522 + (k.val - 194) / 2 := by
  unfold Columns.land
  rw [dif_neg (by omega), dif_neg (by omega), dif_neg (by omega)]

/-- The three products pick the quantity `g` of the landmark column `k`. -/
theorem gather (g : (Fin 32768 → EReal) → EReal) (x : (⟨3, ![32768, 543, 3]⟩ : Shape).Idx → EReal) (k : Fin 236)
    (e : FVec Ideal S1629x236 .f32) (el er : FVec Ideal S64x236 .f32)
    (he : e = V m c main_v7) (hl : el = V m c main_cst_1) (hr : er = V m c main_cst_2) :
    (∑ r : Fin 1629, g (Blocks.flat x r) * e (ix2 r k)) + (∑ r : Fin 64, g (Totals.leftCol x r) * el (ix2 r k))
      + (∑ r : Fin 64, g (Totals.rightCol x r) * er (ix2 r k)) = g (Columns.col x k) := by
  subst he hl hr
  by_cases hL : 86 ≤ k.val ∧ k.val < 128
  · have hland := land_left k hL.1 hL.2
    rw [pick_none _ _ fun r => table_hand m c r k (Or.inl hL),
      pick_one _ _ (⟨3 * ((k.val - 86) / 2) + k.val % 2, by omega⟩ : Fin 64)
        ((left_entry m c _ k).trans (if_pos ⟨hL.1, hL.2, rfl⟩))
        (fun l hl => (left_entry m c _ k).trans (if_neg fun h => hl (Fin.ext h.2.2))),
      pick_none _ _ fun r => (right_entry m c r k).trans (if_neg (by omega)), zero_add, add_zero]
    exact congrArg g (flat_flatCol x k _ (by
      show 1404 + (3 * ((k.val - 86) / 2) + k.val % 2) = 3 * (Columns.land k).val + k.val % 2
      omega))
  · by_cases hR : 194 ≤ k.val
    · have hland := land_right k hR
      rw [pick_none _ _ fun r => table_hand m c r k (Or.inr hR),
        pick_none _ _ fun r => (left_entry m c r k).trans (if_neg (by omega)),
        pick_one _ _ (⟨3 * ((k.val - 194) / 2) + k.val % 2 + 1, by omega⟩ : Fin 64)
          ((right_entry m c _ k).trans (if_pos ⟨hR, k.isLt, rfl⟩))
          (fun l hl => (right_entry m c _ k).trans (if_neg fun h => hl (Fin.ext h.2.2))), zero_add, zero_add]
      exact congrArg g (flat_flatCol x k _ (by
        show 1565 + (3 * ((k.val - 194) / 2) + k.val % 2 + 1) = 3 * (Columns.land k).val + k.val % 2
        omega))
    · have hk : ¬ofHand k := fun h => h.elim hL hR
      rw [pick_one _ _ (flatCol k) ((table_main m c _ k hk).trans (if_pos rfl))
          (fun l hl => (table_main m c l k hk).trans (if_neg hl)),
        pick_none _ _ fun r => (left_entry m c r k).trans (if_neg (by omega)),
        pick_none _ _ fun r => (right_entry m c r k).trans (if_neg (by omega)), add_zero, add_zero]
      exact congrArg g (flat_flatCol x k _ rfl)

end Cert.OneHot

end
-- ==== Proof.KernelValue.lean ====
module

public import proofs.«01_k».proof.Proof.Carry
public import proofs.«01_k».proof.Proof.Finish
public import proofs.«01_k».proof.Proof.OneHot

/-
  What the kernel's run leaves in its result: at each of the first 236 places the mean of that landmark column, at each of
  the last 236 its deviation from the moments.
-/

set_option maxRecDepth 16384

@[expose] public noncomputable section

namespace Cert.KernelValue

open Cert.KernelIdeal Cert.KernelIdeal.Gen Cert.KernelIdeal.Value Idealize.ShloMosaic
open Idealize.ShloMosaic.TcCoe Idealize.SL.Sem
open Totals (arr lastPoint)

variable (m : (ℓ : Loc nD τ sig) → Buf (Elt Ideal) ℓ) (c : Dev nD)

/-- The result is what the last grid point writes. -/
theorem result_eq : G6 m c = (outsAt0 m c lastPoint.val lastPoint.isLt).1 :=
  (G6_last m c).trans (congrArg Prod.fst (outsAt0_sweep m c 127 _).symm)

/-- The means of the main columns, left by the sums. -/
theorem mean_main (s : FVec Ideal S1x1629 .f32) (v : Fin 1629 → Fin 32768 → EReal) (hs : ∀ k, s (ix2 0 k) = ∑ i, v k i) (k : Fin 1629) :
    k0_pay3 (F := Ideal) s (ix2 0 k) = Stats.mean (v k) := by
  rw [Finish.pay3_apply, hs, Stats.meanOf_sum]

/-- The deviations of the main columns, left by the sums and the sums of squares. -/
theorem dev_main (s q : FVec Ideal S1x1629 .f32) (v : Fin 1629 → Fin 32768 → EReal) (hs : ∀ k, s (ix2 0 k) = ∑ i, v k i)
    (hq : ∀ k, q (ix2 0 k) = ∑ i, v k i * v k i) (k : Fin 1629) : k0_pay4 (F := Ideal) s q (ix2 0 k) = Stats.devMoment (v k) := by
  rw [Finish.pay4_apply, hs, hq, Stats.devOf_sum]

/-- The means of the first hand's columns. -/
theorem mean_left (s : FVec Ideal S1x64 .f32) (v : Fin 64 → Fin 32768 → EReal) (hs : ∀ k, s (ix2 0 k) = ∑ i, v k i) (k : Fin 64) :
    k0_pay5 (F := Ideal) ((32768 : ℝ) : EReal) s (ix2 0 k) = Stats.mean (v k) := by
  rw [Finish.pay5_apply, hs, Stats.meanOf_sum]

/-- The deviations of the first hand's columns. -/
theorem dev_left (s q : FVec Ideal S1x64 .f32) (v : Fin 64 → Fin 32768 → EReal) (hs : ∀ k, s (ix2 0 k) = ∑ i, v k i)
    (hq : ∀ k, q (ix2 0 k) = ∑ i, v k i * v k i) (k : Fin 64) :
    k0_pay6 (F := Ideal) ((32768 : ℝ) : EReal) s q (ix2 0 k) = Stats.devMoment (v k) := by
  rw [Finish.pay6_apply, hs, hq, Stats.devOf_sum]

/-- The means of the second hand's columns. -/
theorem mean_right (s : FVec Ideal S1x64 .f32) (v : Fin 64 → Fin 32768 → EReal) (hs : ∀ k, s (ix2 0 k) = ∑ i, v k i) (k : Fin 64) :
    k0_pay7 (F := Ideal) ((32768 : ℝ) : EReal) s (ix2 0 k) = Stats.mean (v k) := by
  rw [Finish.pay7_apply, hs, Stats.meanOf_sum]

/-- The deviations of the second hand's columns. -/
theorem dev_right (s q : FVec Ideal S1x64 .f32) (v : Fin 64 → Fin 32768 → EReal) (hs : ∀ k, s (ix2 0 k) = ∑ i, v k i)
    (hq : ∀ k, q (ix2 0 k) = ∑ i, v k i * v k i) (k : Fin 64) :
    Ideal.sqrt (max (Ideal.div (q (ix2 0 k) - k0_pay8 (F := Ideal) ((32768 : ℝ) : EReal) s (ix2 0 k)) (((32768 : ℝ) : EReal) - 1)) 0)
      = Stats.devMoment (v k) := by
  rw [Finish.pay8_apply, hs, hq, Stats.meanOf_sum, Stats.devMoment]

section Assembled

variable (x : (⟨3, ![32768, 543, 3]⟩ : Shape).Idx → EReal) (s q : FVec Ideal S1x1629 .f32) (ls lq rs rq : FVec Ideal S1x64 .f32)
  (e : FVec Ideal S1629x236 .f32) (el er : FVec Ideal S64x236 .f32)
  (hs : ∀ k, s (ix2 0 k) = ∑ i, Blocks.flat x k i) (hq : ∀ k, q (ix2 0 k) = ∑ i, Blocks.flat x k i * Blocks.flat x k i)
  (hls : ∀ k, ls (ix2 0 k) = ∑ i, Totals.leftCol x k i) (hlq : ∀ k, lq (ix2 0 k) = ∑ i, Totals.leftCol x k i * Totals.leftCol x k i)
  (hrs : ∀ k, rs (ix2 0 k) = ∑ i, Totals.rightCol x k i) (hrq : ∀ k, rq (ix2 0 k) = ∑ i, Totals.rightCol x k i * Totals.rightCol x k i)
  (he : e = V m c main_v7) (hl : el = V m c main_cst_1) (hr : er = V m c main_cst_2)

include hs hq hls hlq hrs hrq he hl hr in
/-- What the last grid point writes at place `j`, from arrays that hold the columns' sums and sums of squares. -/
theorem written_apply (j : Fin 472) :
    k0_pay2 (F := Ideal) (k0_pay3 s) (k0_pay4 s q) ((32768 : ℝ) : EReal) (k0_pay5 (F := Ideal) ((32768 : ℝ) : EReal) ls)
      (k0_pay6 (F := Ideal) ((32768 : ℝ) : EReal) ls lq) (k0_pay7 (F := Ideal) ((32768 : ℝ) : EReal) rs) rq
      (k0_pay8 (F := Ideal) ((32768 : ℝ) : EReal) rs) e el er (ix2 0 j) = Columns.entry Stats.devMoment x j := by
  by_cases hj : j.val < 236
  · rw [Finish.pay2_apply_mean _ _ _ _ _ _ _ _ _ _ _ j hj, Columns.entry, dif_pos hj,
      ← OneHot.gather m c Stats.mean x ⟨j.val, hj⟩ e el er he hl hr]
    refine congr (congrArg HAdd.hAdd (congr (congrArg HAdd.hAdd ?_) ?_)) ?_
    · exact Finset.sum_congr rfl fun k _ => congrArg (· * _) (mean_main s _ hs k)
    · exact Finset.sum_congr rfl fun k _ => congrArg (· * _) (mean_left ls _ hls k)
    · exact Finset.sum_congr rfl fun k _ => congrArg (· * _) (mean_right rs _ hrs k)
  · rw [Finish.pay2_apply_dev _ _ _ _ _ _ _ _ _ _ _ j hj, Columns.entry, dif_neg hj,
      ← OneHot.gather m c Stats.devMoment x ⟨j.val - 236, by omega⟩ e el er he hl hr]
    refine congr (congrArg HAdd.hAdd (congr (congrArg HAdd.hAdd ?_) ?_)) ?_
    · exact Finset.sum_congr rfl fun k _ => congrArg (· * _) (dev_main s q _ hs hq k)
    · exact Finset.sum_congr rfl fun k _ => congrArg (· * _) (dev_left ls lq _ hls hlq k)
    · exact Finset.sum_congr rfl fun k _ => congrArg (· * _) (dev_right rs rq _ hrs hrq k)

end Assembled

/-- The kernel's result at place `j`. -/
theorem result_apply (j : Fin 472) : G6 m c (ix2 0 j) = Columns.entry Stats.devMoment (arr m c) j := by
  rw [result_eq, Carry.result_last m c lastPoint (by decide), Totals.leftCount_total, Totals.rightCount_total]
  exact written_apply m c (arr m c) _ _ _ _ _ _ _ _ _ (Totals.sums_total m c) (Totals.squares_total m c) (Totals.leftSums_total m c)
    (Totals.leftSquares_total m c) (Totals.rightSums_total m c) (Totals.rightSquares_total m c)
    (Blocks.table_whole m c _) (Blocks.left_whole m c _) (Blocks.right_whole m c _) j

end Cert.KernelValue

end
-- ==== Proof.RefStages.lean ====
module

public import proofs.«01_k».proof.Proof.Gen.ReferenceIdeal
public import proofs.«01_k».proof.Proof.Columns

/-
  What the reference computes, in stages, each read at an index: the four groups of columns cut out of the landmark
  array, and the mean and the deviation of each group's columns.
-/

set_option maxRecDepth 16384

@[expose] public noncomputable section

namespace Cert.RefStages

open Cert.ReferenceIdeal Cert.ReferenceIdeal.Gen Idealize.ShloMosaic

/-- The landmark array. -/
abbrev Arr : Type := FVec Ideal S32768x543x3 .f32

/-! ## The groups -/

/-- The first two coordinates of every landmark. -/
def xy (x : Arr) : FVec Ideal S32768x543x2 .f32 :=
  extractStridedSlice S32768x543x2 ![0, 0, 0] x slices_S32768x543x3_S32768x543x2_0_0_0

theorem xy_apply (x : Arr) (i : Fin 32768) (l : Fin 543) (c : Fin 2) :
    xy x (ix3 i l c) = x (ix3 i l ⟨c.val, by omega⟩) := by
  unfold xy; pointwise

/-- The lip table with negative entries wrapped round, of which there are none. -/
def table : IVec S43 32 :=
  select (cmpi .slt ((fun i => lit0 (S43.rowMajor i))) (broadcastInDim S43 ![] bcast_S_S43 (constantI S_ 32 0#32))) (addi ((fun i => lit0 (S43.rowMajor i))) (broadcastInDim S43 ![] bcast_S_S43 (constantI S_ 32 543#32))) ((fun i => lit0 (S43.rowMajor i)))

theorem table_apply (k : Fin 43) : table (ix1 k) = BitVec.ofNat 32 (Columns.lips k).val := by
  have h : ∀ k : Fin 43, table (ix1 k) = BitVec.ofNat 32 (Columns.lips k).val := by decide +kernel
  exact h k

/-- Whether an entry of the table names a landmark: each does. -/
def inRange : IVec S43 1 :=
  Host.reduce IntOp.andi (andi (cmpi .sge (broadcastInDim S43x1 ![0] bcast_S43_S43x1_0 table) (broadcastInDim S43x1 ![] bcast_S_S43x1 (constantI S_ 32 0#32))) (cmpi .sle (broadcastInDim S43x1 ![0] bcast_S43_S43x1_0 table) (broadcastInDim S43x1 ![0, 1] bcast_S1x1_S43x1_0_1 (broadcastInDim S1x1 ![1] bcast_S1_S1x1_1 (constantI S1 32 542#32))))) (constantI S_ 1 1#1) reducesTo_S43x1_S43_d1 h_S_

theorem inRange_apply (k : Fin 43) : inRange (ix1 k) = 1#1 := by
  have h : ∀ k : Fin 43, inRange (ix1 k) = 1#1 := by decide +kernel
  exact h k

/-- A gather along the landmark axis: where the start indices hold at `(k, 0)` a landmark number `b`, entry `(i, k, c)`
    of the result is the operand's entry `(i, b, c)`. -/
theorem gather_landmark (x : FVec Ideal S32768x543x2 .f32) (idx : IVec S43x1 32) (i : Fin 32768) (k : Fin 43) (c : Fin 2)
    (b : Fin 543) (hb : idx (ix2 k 0) = BitVec.ofNat 32 b.val) :
    Host.gather gather_S32768x543x2_S43x1_S32768x43x2_02_1_n_n_1_1_3276812 x idx (ix3 i k c) = x (ix3 i b c) := by
  unfold Host.gather
  refine congrArg x (funext fun a => Fin.ext ?_)
  match a with
  | ⟨0, _⟩ =>
    show GatherDims.start _ (ix3 i k c) idx 0 + GatherDims.batchCoord _ (ix3 i k c) 0 + GatherDims.offCoord _ (ix3 i k c) 0 = i.val
    rw [GatherDims.batchCoord_eq_zero _ _ _ List.not_mem_nil, Nat.add_zero]
    unfold GatherDims.start GatherDims.offCoord
    rw [dif_neg (show (0 : Fin 3) ∉ gather_S32768x543x2_S43x1_S32768x43x2_02_1_n_n_1_1_3276812.startIndexMap from by decide),
      dif_pos (show (0 : Fin 3) ∈ gather_S32768x543x2_S43x1_S32768x43x2_02_1_n_n_1_1_3276812.sKept from by decide), Nat.zero_add]
    rfl
  | ⟨1, _⟩ =>
    show GatherDims.start _ (ix3 i k c) idx 1 + GatherDims.batchCoord _ (ix3 i k c) 1 + GatherDims.offCoord _ (ix3 i k c) 1 = b.val
    rw [GatherDims.batchCoord_eq_zero _ _ _ List.not_mem_nil]
    have hs : GatherDims.start gather_S32768x543x2_S43x1_S32768x43x2_02_1_n_n_1_1_3276812 (ix3 i k c) idx 1
        = min (idx (ix2 k 0)).toInt.toNat 542 := by
      unfold GatherDims.start
      rw [dif_pos (show (1 : Fin 3) ∈ gather_S32768x543x2_S43x1_S32768x43x2_02_1_n_n_1_1_3276812.startIndexMap from List.mem_singleton.mpr rfl)]
      refine congrArg (fun q => min (idx q).toInt.toNat 542) (funext fun d => Fin.ext ?_)
      match d with
      | ⟨0, _⟩ => rfl
      | ⟨1, _⟩ => rfl
    rw [hs, hb]
    have hbl := b.isLt
    have hi : (BitVec.ofNat 32 b.val).toInt = (b.val : Int) := by
      rw [BitVec.toInt_eq_toNat_of_lt (by rw [BitVec.toNat_ofNat]; omega), BitVec.toNat_ofNat]; omega
    rw [hi, GatherDims.offCoord_eq_zero _ _ _ (fun h => ((GatherDims.mem_sKept _ _).mp h).1 (List.mem_singleton.mpr rfl))]
    omega
  | ⟨2, _⟩ =>
    show GatherDims.start _ (ix3 i k c) idx 2 + GatherDims.batchCoord _ (ix3 i k c) 2 + GatherDims.offCoord _ (ix3 i k c) 2 = c.val
    rw [GatherDims.batchCoord_eq_zero _ _ _ List.not_mem_nil, Nat.add_zero]
    unfold GatherDims.start GatherDims.offCoord
    rw [dif_neg (show (2 : Fin 3) ∉ gather_S32768x543x2_S43x1_S32768x43x2_02_1_n_n_1_1_3276812.startIndexMap from by decide),
      dif_pos (show (2 : Fin 3) ∈ gather_S32768x543x2_S43x1_S32768x43x2_02_1_n_n_1_1_3276812.sKept from by decide), Nat.zero_add]
    rfl

/-- The lip landmarks of every frame, and a filler where the table names no landmark, as a row of 86 entries. -/
def lipRows (x : Arr) : FVec Ideal S32768x86 .f32 :=
  shapeCast _ (select (broadcastInDim S32768x43x2 ![1] bcast_S43_S32768x43x2_1 inRange) (Host.gather gather_S32768x543x2_S43x1_S32768x43x2_02_1_n_n_1_1_3276812 (xy x) (broadcastInDim S43x1 ![0] bcast_S43_S43x1_0 table)) (broadcastInDim S32768x43x2 ![] bcast_S_S32768x43x2 (constant S_ .f32 0x7FC00000#32))) shapeCasts_S32768x43x2_S32768x86

theorem lipRows_apply (x : Arr) (i : Fin 32768) (k : Fin 86) :
    lipRows x (ix2 i k) = x (ix3 i (Columns.lips ⟨k.val / 2, by omega⟩) ⟨k.val % 2, by omega⟩) := by
  unfold lipRows
  pointwise
  rw [inRange_apply, gather_landmark (xy x) _ _ _ _ (Columns.lips ⟨k.val / 2, by omega⟩) (by pointwise; exact table_apply _)]
  exact xy_apply ..

/-- The landmarks of the first hand, of the pose and of the second hand, each frame's as one row. -/
def leftRows (x : Arr) : FVec Ideal S32768x42 .f32 :=
  shapeCast _ (extractStridedSlice S32768x21x2 ![0, 468, 0] (xy x) slices_S32768x543x2_S32768x21x2_0_468_0) shapeCasts_S32768x21x2_S32768x42
def poseRows (x : Arr) : FVec Ideal S32768x66 .f32 :=
  shapeCast _ (extractStridedSlice S32768x33x2 ![0, 489, 0] (xy x) slices_S32768x543x2_S32768x33x2_0_489_0) shapeCasts_S32768x33x2_S32768x66
def rightRows (x : Arr) : FVec Ideal S32768x42 .f32 :=
  shapeCast _ (extractStridedSlice S32768x21x2 ![0, 522, 0] (xy x) slices_S32768x543x2_S32768x21x2_0_522_0) shapeCasts_S32768x21x2_S32768x42

theorem leftRows_apply (x : Arr) (i : Fin 32768) (k : Fin 42) :
    leftRows x (ix2 i k) = x (ix3 i ⟨468 + k.val / 2, by omega⟩ ⟨k.val % 2, by omega⟩) := by
  unfold leftRows; pointwise; exact xy_apply ..
theorem poseRows_apply (x : Arr) (i : Fin 32768) (k : Fin 66) :
    poseRows x (ix2 i k) = x (ix3 i ⟨489 + k.val / 2, by omega⟩ ⟨k.val % 2, by omega⟩) := by
  unfold poseRows; pointwise; exact xy_apply ..
theorem rightRows_apply (x : Arr) (i : Fin 32768) (k : Fin 42) :
    rightRows x (ix2 i k) = x (ix3 i ⟨522 + k.val / 2, by omega⟩ ⟨k.val % 2, by omega⟩) := by
  unfold rightRows; pointwise; exact xy_apply ..

end Cert.RefStages

end
-- ==== Proof.RefStats.lean ====
module

public import proofs.«01_k».proof.Proof.RefStages
public import Idealize.ShloMosaic.Lib.IdealHost

/-
  The reference's means and deviations, each read at a column: the lips and the pose.
-/

set_option maxRecDepth 16384

@[expose] public noncomputable section

namespace Cert.RefStages

open Cert.ReferenceIdeal Cert.ReferenceIdeal.Gen Idealize.ShloMosaic

/-- The rows less one, as the reference's host program takes it, and the test that it is positive. -/
def rowsLessOne : FVec Ideal S_ .f32 := subf (constant S_ .f32 0x47000000#32) (sitofp .f32 (constantI S_ 32 1#32))

theorem rowsLessOne_apply : rowsLessOne ix0 = ((32768 : ℝ) : EReal) - 1 := by
  unfold rowsLessOne
  pointwise
  rw [Stats.ofBits_rows]
  congr 1
  show ((((1#32 : BitVec 32).toInt : ℤ) : ℝ) : EReal) = 1
  norm_num

/-- The number of rows less one is positive. -/
theorem rows_sub_one_pos : (0 : EReal) < ((32768 : ℝ) : EReal) - 1 := by
  rw [Stats.rows_sub_one]
  exact EReal.coe_pos.2 (by norm_num)

/-! ## The lips and the pose -/

def lipMean (X : FVec Ideal S32768x86 .f32) : FVec Ideal S86 .f32 :=
  Host.divf (Host.reduceAdd X (constant S_ .f32 0x00000000#32) reducesTo_S32768x86_S86_d0 h_S_) (broadcastInDim S86 ![] bcast_S_S86 (constant S_ .f32 0x47000000#32))

theorem lipMean_apply (X : FVec Ideal S32768x86 .f32) (k : Fin 86) :
    lipMean X (ix1 k) = Stats.mean fun i => X (ix2 i k) := by
  unfold lipMean Stats.mean
  pointwise
  rw [Stats.ofBits_rows]

/-- The lips' entries less their column's mean. -/
def lipCentred (X : FVec Ideal S32768x86 .f32) : FVec Ideal S32768x86 .f32 :=
  subf X (broadcastInDim S32768x86 ![0, 1] bcast_S1x86_S32768x86_0_1 (Host.divf (broadcastInDim S1x86 ![1] bcast_S86_S1x86_1 (Host.reduceAdd X (constant S_ .f32 0x00000000#32) reducesTo_S32768x86_S86_d0 h_S_)) (broadcastInDim S1x86 ![] bcast_S_S1x86 (constant S_ .f32 0x47000000#32))))

theorem lipCentred_apply (X : FVec Ideal S32768x86 .f32) (i : Fin 32768) (k : Fin 86) :
    lipCentred X (ix2 i k) = X (ix2 i k) - Stats.mean fun i => X (ix2 i k) := by
  unfold lipCentred Stats.mean
  pointwise
  rw [Stats.ofBits_rows]

def lipDev (X : FVec Ideal S32768x86 .f32) : FVec Ideal S86 .f32 :=
  Host.sqrt (select (broadcastInDim S86 ![] bcast_S_S86 (cmpf .ogt rowsLessOne (constant S_ .f32 0x00000000#32))) (Host.divf (Host.reduceAdd (mulf (lipCentred X) (lipCentred X)) (constant S_ .f32 0x00000000#32) reducesTo_S32768x86_S86_d0 h_S_) (broadcastInDim S86 ![] bcast_S_S86 rowsLessOne)) (broadcastInDim S86 ![] bcast_S_S86 (id (constant S_ .f32 0x7FC00000#32))))

theorem lipDev_apply (X : FVec Ideal S32768x86 .f32) (k : Fin 86) :
    lipDev X (ix1 k) = Stats.devCentred fun i => X (ix2 i k) := by
  unfold lipDev Stats.devCentred
  pointwise
  simp only [lipCentred_apply, rowsLessOne_apply, if_pos rows_sub_one_pos]

def poseMean (X : FVec Ideal S32768x66 .f32) : FVec Ideal S66 .f32 :=
  Host.divf (Host.reduceAdd X (constant S_ .f32 0x00000000#32) reducesTo_S32768x66_S66_d0 h_S_) (broadcastInDim S66 ![] bcast_S_S66 (constant S_ .f32 0x47000000#32))

theorem poseMean_apply (X : FVec Ideal S32768x66 .f32) (k : Fin 66) :
    poseMean X (ix1 k) = Stats.mean fun i => X (ix2 i k) := by
  unfold poseMean Stats.mean
  pointwise
  rw [Stats.ofBits_rows]

/-- The poses' entries less their column's mean. -/
def poseCentred (X : FVec Ideal S32768x66 .f32) : FVec Ideal S32768x66 .f32 :=
  subf X (broadcastInDim S32768x66 ![0, 1] bcast_S1x66_S32768x66_0_1 (Host.divf (broadcastInDim S1x66 ![1] bcast_S66_S1x66_1 (Host.reduceAdd X (constant S_ .f32 0x00000000#32) reducesTo_S32768x66_S66_d0 h_S_)) (broadcastInDim S1x66 ![] bcast_S_S1x66 (constant S_ .f32 0x47000000#32))))

theorem poseCentred_apply (X : FVec Ideal S32768x66 .f32) (i : Fin 32768) (k : Fin 66) :
    poseCentred X (ix2 i k) = X (ix2 i k) - Stats.mean fun i => X (ix2 i k) := by
  unfold poseCentred Stats.mean
  pointwise
  rw [Stats.ofBits_rows]

def poseDev (X : FVec Ideal S32768x66 .f32) : FVec Ideal S66 .f32 :=
  Host.sqrt (select (broadcastInDim S66 ![] bcast_S_S66 (cmpf .ogt rowsLessOne (constant S_ .f32 0x00000000#32))) (Host.divf (Host.reduceAdd (mulf (poseCentred X) (poseCentred X)) (constant S_ .f32 0x00000000#32) reducesTo_S32768x66_S66_d0 h_S_) (broadcastInDim S66 ![] bcast_S_S66 rowsLessOne)) (broadcastInDim S66 ![] bcast_S_S66 (id (constant S_ .f32 0x7FC00000#32))))

theorem poseDev_apply (X : FVec Ideal S32768x66 .f32) (k : Fin 66) :
    poseDev X (ix1 k) = Stats.devCentred fun i => X (ix2 i k) := by
  unfold poseDev Stats.devCentred
  pointwise
  simp only [poseCentred_apply, rowsLessOne_apply, if_pos rows_sub_one_pos]

end Cert.RefStages

end
-- ==== Proof.RefHands.lean ====
module

public import proofs.«01_k».proof.Proof.RefStats

/-
  The reference's means and deviations of a hand's columns: its rows are weighted by whether they hold a number in
  every entry, which over the extended reals each row does.
-/

set_option maxRecDepth 16384

@[expose] public noncomputable section

namespace Cert.RefStages

open Cert.ReferenceIdeal Cert.ReferenceIdeal.Gen Idealize.ShloMosaic

/-! ## The hands -/

/-- The weight of each row of a hand: one where every entry is a number. -/
def weight (X : FVec Ideal S32768x42 .f32) : FVec Ideal S32768x1 .f32 :=
  broadcastInDim S32768x1 ![0] bcast_S32768_S32768x1_0 (uitofp .f32 (noti (Host.reduce IntOp.ori (cmpf .une X X) (constantI S_ 1 0#1) reducesTo_S32768x42_S32768_d1 h_S_)))

/-- A reduction by «or» of words that are all zero, from zero, is zero. -/
theorem reduce_ori_zero {s t u : Shape} {axes : List (Fin s.rank)} (x : s.Idx → BitVec 1) (init : u.Idx → BitVec 1)
    (h : s.ReducesTo axes t) (hu : 0 < u.numel) (j : t.Idx) (hi : init (Shape.Idx.first hu) = 0#1) (hx : ∀ i, x i = 0#1) :
    Host.reduce IntOp.ori x init h hu j = 0#1 := by
  rw [Host.reduce_eq_foldl, hi]
  generalize List.filter _ _ = l
  induction l with
  | nil => rfl
  | cons a l ih => rw [List.foldl_cons, hx a]; exact ih

/-- A host sum over both axes of a matrix, the result a scalar: the initial value and every entry. -/
theorem hostReduceAdd_both {n0 n1 : Nat} (h : (⟨2, ![n0, n1]⟩ : Shape).ReducesTo [0, 1] ⟨0, ![]⟩)
    (x : (⟨2, ![n0, n1]⟩ : Shape).Idx → EReal) (init : EReal) (j : (⟨0, ![]⟩ : Shape).Idx) :
    Ideal.hostReduceAdd h x init j = init + ∑ a, ∑ b, x (ix2 a b) := by
  unfold Ideal.hostReduceAdd
  rw [Finset.filter_true_of_mem (fun i _ => funext fun a => a.elim0), sum_idx2]

/-- Over the extended reals every entry is a number, so each weight is one. -/
theorem weight_apply (X : FVec Ideal S32768x42 .f32) (i : Fin 32768) : weight X (ix2 i 0) = 1 := by
  have h : Host.reduce IntOp.ori (cmpf .une X X) (constantI S_ 1 0#1) reducesTo_S32768x42_S32768_d1 h_S_ (ix1 i) = 0#1 :=
    reduce_ori_zero _ _ _ _ _ rfl fun q => by
      show BitVec.ofBool (decide (X q ≠ X q)) = 0#1
      simp
  unfold weight
  generalize Host.reduce IntOp.ori (cmpf .une X X) (constantI S_ 1 0#1) reducesTo_S32768x42_S32768_d1 h_S_ = w at h
  pointwise
  rw [h]
  show ((((~~~(0#1) : BitVec 1).toNat : ℕ) : ℝ) : EReal) = 1
  norm_num

/-- The number of a hand's rows that count: all of them. -/
def count (X : FVec Ideal S32768x42 .f32) : FVec Ideal S_ .f32 :=
  Host.reduceAdd (weight X) (constant S_ .f32 0x00000000#32) reducesTo_S32768x1_S_d0_1 h_S_

theorem count_apply (X : FVec Ideal S32768x42 .f32) : count X ix0 = ((32768 : ℝ) : EReal) := by
  have h1 : ∀ (a : Fin 32768) (b : Fin 1), weight X (ix2 a b) = ((1 : ℝ) : EReal) := fun a b => by
    obtain rfl : b = 0 := Subsingleton.elim _ _
    exact weight_apply X a
  unfold count
  refine (hostReduceAdd_both reducesTo_S32768x1_S_d0_1 (weight X) _ _).trans ?_
  simp only [h1, Stats.sum_coe]
  rw [show (constant (F := Ideal) S_ .f32 0x00000000#32) (Shape.Idx.first h_S_) = 0 from Ideal.ofBits_zero_f32, zero_add]
  simp

/-- A matrix with the rows that do not count set to zero: no row is. -/
def kept (X Y : FVec Ideal S32768x42 .f32) : FVec Ideal S32768x42 .f32 :=
  select (broadcastInDim S32768x42 ![0, 1] bcast_S32768x1_S32768x42_0_1 (cmpf .ogt (weight X) (broadcastInDim S32768x1 ![] bcast_S_S32768x1 (constant S_ .f32 0x00000000#32)))) Y (broadcastInDim S32768x42 ![] bcast_S_S32768x42 (id (constant S_ .f32 0x00000000#32)))

theorem kept_apply (X Y : FVec Ideal S32768x42 .f32) (i : Fin 32768) (k : Fin 42) : kept X Y (ix2 i k) = Y (ix2 i k) := by
  unfold kept
  pointwise
  simp only [weight_apply, zero_lt_one, if_true]

/-- The sums of a matrix's columns over a count. -/
theorem quotient_apply (Y : FVec Ideal S32768x42 .f32) (n : FVec Ideal S_ .f32) (k : Fin 42) :
    Host.divf (Host.reduceAdd Y (constant S_ .f32 0x00000000#32) reducesTo_S32768x42_S42_d0 h_S_) (broadcastInDim S42 ![] bcast_S_S42 n) (ix1 k)
      = Ideal.div (∑ i, Y (ix2 i k)) (n ix0) := by
  pointwise

def handMean (X : FVec Ideal S32768x42 .f32) : FVec Ideal S42 .f32 :=
  Host.divf (Host.reduceAdd (kept X X) (constant S_ .f32 0x00000000#32) reducesTo_S32768x42_S42_d0 h_S_) (broadcastInDim S42 ![] bcast_S_S42 (count X))

theorem handMean_apply (X : FVec Ideal S32768x42 .f32) (k : Fin 42) :
    handMean X (ix1 k) = Stats.mean fun i => X (ix2 i k) := by
  unfold handMean Stats.mean
  rw [quotient_apply, count_apply]
  simp only [kept_apply]

/-- A hand's entries less their column's mean. -/
def handCentred (X : FVec Ideal S32768x42 .f32) : FVec Ideal S32768x42 .f32 :=
  subf X (broadcastInDim S32768x42 ![0, 1] bcast_S1x42_S32768x42_0_1 (broadcastInDim S1x42 ![1] bcast_S42_S1x42_1 (handMean X)))

theorem handCentred_apply (X : FVec Ideal S32768x42 .f32) (i : Fin 32768) (k : Fin 42) :
    handCentred X (ix2 i k) = X (ix2 i k) - Stats.mean fun i => X (ix2 i k) := by
  unfold handCentred
  pointwise
  rw [handMean_apply]

/-- A scalar less one. -/
theorem lessOne_apply (n : FVec Ideal S_ .f32) : subf n (constant S_ .f32 0x3F800000#32) ix0 = n ix0 - 1 := by
  pointwise

/-- The host's square root at an index. -/
theorem hostSqrt_apply {s : Shape} (v : FVec Ideal s .f32) (j : s.Idx) : Host.sqrt v j = Ideal.sqrt (v j) := rfl

def handDev (X : FVec Ideal S32768x42 .f32) : FVec Ideal S42 .f32 :=
  Host.sqrt (Host.divf (Host.reduceAdd (kept X (mulf (handCentred X) (handCentred X))) (constant S_ .f32 0x00000000#32) reducesTo_S32768x42_S42_d0 h_S_) (broadcastInDim S42 ![] bcast_S_S42 (subf (count X) (constant S_ .f32 0x3F800000#32))))

theorem handDev_apply (X : FVec Ideal S32768x42 .f32) (k : Fin 42) :
    handDev X (ix1 k) = Stats.devCentred fun i => X (ix2 i k) := by
  unfold handDev Stats.devCentred
  have hk : ∀ i, kept X (mulf (handCentred X) (handCentred X)) (ix2 i k)
      = (X (ix2 i k) - Stats.mean fun i => X (ix2 i k)) * (X (ix2 i k) - Stats.mean fun i => X (ix2 i k)) := fun i => by
    rw [kept_apply, ← handCentred_apply]; rfl
  rw [hostSqrt_apply, quotient_apply, lessOne_apply, count_apply]
  simp only [hk]

end Cert.RefStages

end
-- ==== Proof.RefValue.lean ====
module

public import proofs.«01_k».proof.Proof.RefHands

/-
  The reference's result: the eight groups of statistics joined, an entry that is no number replaced by zero (over the
  extended reals none is), as a matrix of one row.
-/

set_option maxRecDepth 16384

@[expose] public noncomputable section

namespace Cert.RefStages

open Cert.ReferenceIdeal Cert.ReferenceIdeal.Gen Idealize.ShloMosaic

/-- The eight groups of statistics, end to end. -/
def join (a : FVec Ideal S86 .f32) (b : FVec Ideal S42 .f32) (c : FVec Ideal S66 .f32) (d : FVec Ideal S42 .f32)
    (a' : FVec Ideal S86 .f32) (b' : FVec Ideal S42 .f32) (c' : FVec Ideal S66 .f32) (d' : FVec Ideal S42 .f32) :
    FVec Ideal S472 .f32 :=
  concatenate S472 0 [⟨S86, a⟩, ⟨S42, b⟩, ⟨S66, c⟩, ⟨S42, d⟩, ⟨S86, a'⟩, ⟨S42, b'⟩, ⟨S66, c'⟩, ⟨S42, d'⟩] concatenates_S86_S42_S66_S42_S86_S42_S66_S42_S472_d0

/-- An entry of the joined groups is an entry of the group it falls in. -/
theorem join_apply (a : FVec Ideal S86 .f32) (b : FVec Ideal S42 .f32) (c : FVec Ideal S66 .f32) (d : FVec Ideal S42 .f32)
    (a' : FVec Ideal S86 .f32) (b' : FVec Ideal S42 .f32) (c' : FVec Ideal S66 .f32) (d' : FVec Ideal S42 .f32) (j : Fin 472) :
    join a b c d a' b' c' d' (ix1 j) =
      if h : j.val < 86 then a (ix1 ⟨j.val, h⟩)
      else if h : j.val < 128 then b (ix1 ⟨j.val - 86, by omega⟩)
      else if h : j.val < 194 then c (ix1 ⟨j.val - 128, by omega⟩)
      else if h : j.val < 236 then d (ix1 ⟨j.val - 194, by omega⟩)
      else if h : j.val < 322 then a' (ix1 ⟨j.val - 236, by omega⟩)
      else if h : j.val < 364 then b' (ix1 ⟨j.val - 322, by omega⟩)
      else if h : j.val < 430 then c' (ix1 ⟨j.val - 364, by omega⟩)
      else d' (ix1 ⟨j.val - 430, by omega⟩) := by
  unfold join
  pointwise
  simp only [Nat.sub_sub, Nat.reduceAdd]
  by_cases h0 : j.val < 86
  · rw [dif_pos h0, dif_pos h0]
  rw [dif_neg h0, dif_neg h0]
  by_cases h1 : j.val < 128
  · rw [dif_pos h1, dif_pos (by omega)]
  rw [dif_neg h1, dif_neg (by omega)]
  by_cases h2 : j.val < 194
  · rw [dif_pos h2, dif_pos (by omega)]
  rw [dif_neg h2, dif_neg (by omega)]
  by_cases h3 : j.val < 236
  · rw [dif_pos h3, dif_pos (by omega)]
  rw [dif_neg h3, dif_neg (by omega)]
  by_cases h4 : j.val < 322
  · rw [dif_pos h4, dif_pos (by omega)]
  rw [dif_neg h4, dif_neg (by omega)]
  by_cases h5 : j.val < 364
  · rw [dif_pos h5, dif_pos (by omega)]
  rw [dif_neg h5, dif_neg (by omega)]
  by_cases h6 : j.val < 430
  · rw [dif_pos h6, dif_pos (by omega)]
  rw [dif_neg h6, dif_neg (by omega)]

/-- The joined statistics of an array. -/
def stats (x : Arr) : FVec Ideal S472 .f32 :=
  join (lipMean (lipRows x)) (handMean (leftRows x)) (poseMean (poseRows x)) (handMean (rightRows x))
    (lipDev (lipRows x)) (handDev (leftRows x)) (poseDev (poseRows x)) (handDev (rightRows x))

/-- The columns of the groups are the columns named in Columns.lean. -/
theorem lipRows_col (x : Arr) (k : Fin 86) : (fun i => lipRows x (ix2 i k)) = Columns.col x ⟨k.val, by omega⟩ := by
  funext i
  have h : Columns.land ⟨k.val, by omega⟩ = Columns.lips ⟨k.val / 2, by omega⟩ := by
    unfold Columns.land; rw [dif_pos k.isLt]
  unfold Columns.col
  rw [lipRows_apply, h]; rfl
theorem leftRows_col (x : Arr) (k : Fin 42) : (fun i => leftRows x (ix2 i k)) = Columns.col x ⟨86 + k.val, by omega⟩ := by
  funext i
  have h : Columns.land ⟨86 + k.val, by omega⟩ = ⟨468 + k.val / 2, by omega⟩ := by
    unfold Columns.land; rw [dif_neg (by simp), dif_pos (by simp; omega)]; exact Fin.ext (by simp)
  have hc : Columns.coord ⟨86 + k.val, by omega⟩ = ⟨k.val % 2, by omega⟩ := Fin.ext (by simp [Columns.coord]; omega)
  unfold Columns.col
  rw [leftRows_apply, h, hc]
theorem poseRows_col (x : Arr) (k : Fin 66) : (fun i => poseRows x (ix2 i k)) = Columns.col x ⟨128 + k.val, by omega⟩ := by
  funext i
  have h : Columns.land ⟨128 + k.val, by omega⟩ = ⟨489 + k.val / 2, by omega⟩ := by
    unfold Columns.land; rw [dif_neg (by show ¬128 + k.val < 86; omega), dif_neg (by show ¬128 + k.val < 128; omega), dif_pos (by show 128 + k.val < 194; omega)]; exact Fin.ext (by simp)
  have hc : Columns.coord ⟨128 + k.val, by omega⟩ = ⟨k.val % 2, by omega⟩ := Fin.ext (by simp [Columns.coord]; omega)
  unfold Columns.col
  rw [poseRows_apply, h, hc]
theorem rightRows_col (x : Arr) (k : Fin 42) : (fun i => rightRows x (ix2 i k)) = Columns.col x ⟨194 + k.val, by omega⟩ := by
  funext i
  have h : Columns.land ⟨194 + k.val, by omega⟩ = ⟨522 + k.val / 2, by omega⟩ := by
    unfold Columns.land; rw [dif_neg (by show ¬194 + k.val < 86; omega), dif_neg (by show ¬194 + k.val < 128; omega), dif_neg (by show ¬194 + k.val < 194; omega)]; exact Fin.ext (by simp)
  have hc : Columns.coord ⟨194 + k.val, by omega⟩ = ⟨k.val % 2, by omega⟩ := Fin.ext (by simp [Columns.coord]; omega)
  unfold Columns.col
  rw [rightRows_apply, h, hc]

/-- An entry of the joined statistics is the mean or the deviation of its column. -/
theorem stats_apply (x : Arr) (j : Fin 472) : stats x (ix1 j) = Columns.entry Stats.devCentred x j := by
  unfold stats Columns.entry
  rw [join_apply]
  simp only [lipMean_apply, handMean_apply, poseMean_apply, lipDev_apply, handDev_apply, poseDev_apply,
    lipRows_col, leftRows_col, poseRows_col, rightRows_col]
  by_cases h : j.val < 236
  · rw [dif_pos h]
    split
    · rfl
    · split
      · congr 2; exact Fin.ext (by simp; omega)
      · split
        · congr 2; exact Fin.ext (by simp; omega)
        · congr 2; exact Fin.ext (by simp; omega)
  · rw [dif_neg h, dif_neg (by omega), dif_neg (by omega), dif_neg (by omega), dif_neg h]
    split
    · rfl
    · split
      · congr 2; exact Fin.ext (by simp; omega)
      · split
        · congr 2; exact Fin.ext (by simp; omega)
        · congr 2; exact Fin.ext (by simp; omega)

/-- The reference's result. -/
def result (x : Arr) : FVec Ideal S1x472 .f32 :=
  broadcastInDim S1x472 ![1] bcast_S472_S1x472_1 (select (cmpf .une (stats x) (stats x)) (broadcastInDim S472 ![] bcast_S_S472 (constant S_ .f32 0x00000000#32)) (stats x))

/-- An entry of the reference's result is the mean or the deviation of its column. -/
theorem result_apply (x : Arr) (j : Fin 472) : result x (ix2 0 j) = Columns.entry Stats.devCentred x j := by
  rw [← stats_apply]
  unfold result
  generalize stats x = s
  pointwise
  exact if_neg fun h => h rfl

end Cert.RefStages

end
-- ==== Proof.RefRun.lean ====
module

public import proofs.«01_k».proof.Proof.Gen.ReferenceIdeal.Run
public import proofs.«01_k».proof.Proof.RefValue

/-
  What the reference's run leaves in its result is the result of its stages.
-/

set_option maxRecDepth 16384

@[expose] public noncomputable section

namespace Cert.RefStages

open Cert.ReferenceIdeal Cert.ReferenceIdeal.Gen Idealize.ShloMosaic Idealize.ShloMosaic.TcCoe Idealize.SL.Sem

/-- The value the reference's run leaves in its result, as the stages compute it. -/
theorem res_out0_eq (m : (ℓ : Loc nD τ sig) → Buf (Elt Ideal) ℓ) (c : Dev nD) :
    Value.res_out0 m c = result (m ((c.tc : Thread nD τ).loc main_arg0)) := rfl

end Cert.RefStages

end
-- ==== Proof.Finite.lean ====
module

public import proofs.«01_k».proof.Proof.Gen.Pre_finite
public import proofs.«01_k».proof.Proof.Columns
public import Idealize.ShloMosaic.Lib.ReduceAll
public import Idealize.ShloMosaic.Lib.Pointwise.Select

/-
  What the precondition says: the coordinates that the result is taken of are real numbers in every frame.
-/

set_option maxRecDepth 16384

@[expose] public noncomputable section

namespace Cert.Finite

open Cert.Pre_finite Idealize.ShloMosaic

/-- The word of positive infinity is the greatest extended real. -/
theorem ofBits_inf : Ideal.ofBits .f32 0x7F800000#32 = ⊤ := by
  simp [Ideal.ofBits, Ideal.ieee]

/-- An extended real whose absolute value is below the greatest one is a real number. -/
theorem real_of_abs_lt (x : EReal) (h : max x (-x) < ⊤) : ∃ r : ℝ, x = (r : EReal) := by
  refine Stats.exists_real_of_abs_lt_top x (fun e => ?_) (fun e => ?_)
  · rw [e] at h; simp at h
  · rw [e] at h; simp at h

/-- The table of the landmarks that are not read holds zero at each landmark that is. -/
theorem read_word : ∀ k : Fin 236, lit0 (Columns.land k) = 0#1 := by decide +kernel

/-- The table spread over the array, at a landmark that is read. -/
theorem read_apply (i : Fin 32768) (k : Fin 236) (d : Fin 2) :
    broadcastInDim S32768x543x2 ![0, 1, 2] Facts.bcast_S1x543x1_S32768x543x2_0_1_2
      (broadcastInDim S1x543x1 ![1] Facts.bcast_S543_S1x543x1_1 (fun i => lit0 (S543.rowMajor i))) (ix3 i (Columns.land k) d) = 0#1 := by
  rw [← read_word k]
  show lit0 (S543.rowMajor _) = _
  congr 1
  apply Fin.ext
  rw [Shape.rowMajor_val_one]
  simp [ix3]

/-- The precondition gives that a coordinate that is read is a real number. -/
theorem real_of_pre (x : FVec Ideal S32768x543x3 .f32) (h : fn (F := Ideal) x = fun _ => 1#1) (i : Fin 32768) (k : Fin 236) :
    ∃ r : ℝ, x (ix3 i (Columns.land k) (Columns.coord k)) = (r : EReal) := by
  haveI : Subsingleton S_.Idx := ⟨fun a b => funext fun d => d.elim0⟩
  have hd : (Columns.coord k).val < 2 := Nat.mod_lt _ (by decide)
  have e := Host.reduce_andi_all _ _ _ _ (Shape.Idx.first Facts.h_S_) (congrFun h _)
    (ix3 i (Columns.land k) (⟨(Columns.coord k).val, hd⟩ : Fin 2))
  rw [ori, read_apply] at e
  refine real_of_abs_lt _ ?_
  have e' := (Ideal.cmp_olt_eq_one _ _).1 ((BitVec.or_zero (w := 1)).symm.trans e)
  rw [← ofBits_inf]
  refine lt_of_eq_of_lt ?_ e'
  have hx : x (ix3 i (Columns.land k) (Columns.coord k)) = extractStridedSlice S32768x543x2 ![0, 0, 0] x Facts.slices_S32768x543x3_S32768x543x2_0_0_0
      (ix3 i (Columns.land k) (⟨(Columns.coord k).val, hd⟩ : Fin 2)) := by
    unfold extractStridedSlice
    congr 1
    funext a
    apply Fin.ext
    match a with
    | ⟨0, _⟩ => simp [ix3]
    | ⟨1, _⟩ => simp [ix3]
    | ⟨2, _⟩ => simp [ix3]
  rw [hx]
  rfl

end Cert.Finite

end
-- ==== Proof.lean ====
/-
  The proof of `Cert.Claim` (proofs.«01_k».proof.Defs): the kernel and the reference run to the end with their argument
  unchanged and every counter at zero, and from a landmark array whose coordinates that are read are real numbers they leave
  the same result in exact arithmetic.

  Both results are, at each of the first 236 places, the mean of one landmark coordinate over the frames and, at each of the
  last 236, its deviation (`Cert.Columns.entry`). The kernel takes the deviation from the sum of squares
  (`Cert.KernelValue.result_apply`), the reference from the squares about the mean (`Cert.RefStages.result_apply`); of real
  numbers the two are one (`Cert.Columns.entry_congr`).
-/
module

public import proofs.«01_k».proof.Defs
public import proofs.«01_k».proof.Proof.Gen.Kernel.Frame
public import proofs.«01_k».proof.Proof.KernelValue
public import proofs.«01_k».proof.Proof.RefRun
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The reference's frame: its run read at the argument; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- An array of one row that agrees with another at every place of the row is that array. -/
theorem row_ext (a b : (⟨2, ![1, 472]⟩ : Shape).Idx → EReal) (h : ∀ j : Fin 472, a (ix2 0 j) = b (ix2 0 j)) : a = b := by
  funext i
  have hi : i = ix2 (0 : Fin 1) (i 1 : Fin 472) := by
    funext d
    match d with
    | ⟨0, _⟩ => exact Subsingleton.elim (α := Fin 1) _ _
    | ⟨1, _⟩ => rfl
  rw [hi]
  exact h _

/-- From a landmark array whose coordinates that are read are real numbers, the kernel's result is the reference's. -/
theorem results_eq (m : (ℓ : Loc Cert.KernelIdeal.nD Cert.KernelIdeal.τ Cert.KernelIdeal.sig) → Buf (Elt Ideal) ℓ)
    (c : Dev Cert.KernelIdeal.nD) (x : (⟨3, ![32768, 543, 3]⟩ : Shape).Idx → EReal) (hx : Totals.arr m c = x)
    (hpre : ∀ i k, ∃ r : ℝ, x (ix3 i (Columns.land k) (Columns.coord k)) = (r : EReal)) :
    Cert.RefStages.result x = Cert.KernelIdeal.Value.G6 m c :=
  row_ext _ _ fun j => by
    rw [RefStages.result_apply, KernelValue.result_apply, hx, Columns.entry_congr x hpre]

/-- In exact arithmetic the kernel and the reference leave the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Value.G6 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (RefStages.res_out0_eq m' c).trans ?_
  rw [hagree c]
  exact results_eq m c _ rfl (Finite.real_of_pre _ (hpre c))

/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ, trivial, algebraic⟩

end Cert.Proof

end
